-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_bias_nonpos_action_finite [hPre_first_bias_nonpos_action_finite : Cert.Pre_first_bias_nonpos_action_finite.Facts] (m : (ℓ : Loc Cert.KernelIdeal.nD Cert.KernelIdeal.τ Cert.KernelIdeal.sig) → Buf (Elt Ideal) ℓ) : Prop :=
  ∀ c : Dev Cert.KernelIdeal.nD,
    (Cert.Pre_first_bias_nonpos_action_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_bias_nonpos_action_finite [hPre_first_bias_nonpos_action_finite : Cert.Pre_first_bias_nonpos_action_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_bias_nonpos_action_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_first_bias_nonpos_action_finite [hKernelIdeal : Cert.KernelIdeal.Facts] [hPre_first_bias_nonpos_action_finite : Cert.Pre_first_bias_nonpos_action_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_bias_nonpos_action_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_first_bias_nonpos_action_finite [hReferenceIdeal : Cert.ReferenceIdeal.Facts] [hPre_first_bias_nonpos_action_finite : Cert.Pre_first_bias_nonpos_action_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_bias_nonpos_action_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_first_bias_nonpos_action_finite [hKernelIdeal : Cert.KernelIdeal.Facts] [hReferenceIdeal : Cert.ReferenceIdeal.Facts] [hPre_first_bias_nonpos_action_finite : Cert.Pre_first_bias_nonpos_action_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_bias_nonpos_action_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_first_bias_nonpos_action_finite : Cert.Pre_first_bias_nonpos_action_finite.Facts),
    quiescent_Kernel (hKernel := hKernel)
    ∧ quiescent_KernelIdeal (hKernelIdeal := hKernelIdeal)
    ∧ quiescent_KernelIdeal_pre_first_bias_nonpos_action_finite (hKernelIdeal := hKernelIdeal) (hPre_first_bias_nonpos_action_finite := hPre_first_bias_nonpos_action_finite)
    ∧ quiescent_ReferenceIdeal (hReferenceIdeal := hReferenceIdeal)
    ∧ quiescent_ReferenceIdeal_pre_first_bias_nonpos_action_finite (hReferenceIdeal := hReferenceIdeal) (hPre_first_bias_nonpos_action_finite := hPre_first_bias_nonpos_action_finite)
    ∧ preserves_Kernel_KernelIdeal
    ∧ algebraic_KernelIdeal_ReferenceIdeal_pre_first_bias_nonpos_action_finite (hKernelIdeal := hKernelIdeal) (hReferenceIdeal := hReferenceIdeal) (hPre_first_bias_nonpos_action_finite := hPre_first_bias_nonpos_action_finite)
-- ==== Pre_first_bias_nonpos_action_finite.lean ====
abbrev S2x1x256x256 : Shape := ⟨4, ![2, 1, 256, 256]⟩
abbrev S2x64x256x256 : Shape := ⟨4, ![2, 64, 256, 256]⟩
abbrev S2x256 : Shape := ⟨2, ![2, 256]⟩
abbrev S64x64x1x1 : Shape := ⟨4, ![64, 64, 1, 1]⟩
abbrev S64 : Shape := ⟨1, ![64]⟩
abbrev S64x64x3x3 : Shape := ⟨4, ![64, 64, 3, 3]⟩
abbrev S25x64x1x1 : Shape := ⟨4, ![25, 64, 1, 1]⟩
abbrev S25 : Shape := ⟨1, ![25]⟩
abbrev S256x64 : Shape := ⟨2, ![256, 64]⟩
abbrev S64x25 : Shape := ⟨2, ![64, 25]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S2x256 : S_.BroadcastsInDim S2x256 (![] : Fin 0 → Fin S2x256.rank)
  reducesTo_S2x256_S_d0_1 : S2x256.ReducesTo [0, 1] S_
  bcast_S_S256x64 : S_.BroadcastsInDim S256x64 (![] : Fin 0 → Fin S256x64.rank)
  reducesTo_S256x64_S_d0_1 : S256x64.ReducesTo [0, 1] S_
  bcast_S_S64x25 : S_.BroadcastsInDim S64x25 (![] : Fin 0 → Fin S64x25.rank)
  reducesTo_S64x25_S_d0_1 : S64x25.ReducesTo [0, 1] S_
  bcast_S_S25 : S_.BroadcastsInDim S25 (![] : Fin 0 → Fin S25.rank)
  reducesTo_S25_S_d0 : S25.ReducesTo [0] S_

variable [Facts]

def fn_part1 {F : FTy → Type} [FloatOps F] (main_arg13 : FVec F S64x25 .f32) (main_arg14 : FVec F S25 .f32) (main_v12 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v12 main_v16
  let main_v18 : FVec F S64x25 .f32 := Host.absf main_arg13
  let main_cst_6 : FVec F S_ .f32 := constant S_ .f32 0x7F800000#32
  let main_v19 : FVec F S64x25 .f32 := broadcastInDim S64x25 ![] bcast_S_S64x25 main_cst_6
  let main_v20 : IVec S64x25 1 := cmpf .olt main_v18 main_v19
  let main_c_7 : IVec S_ 1 := constantI S_ 1 1#1
  let main_v21 : IVec S_ 1 := (fun x v => Host.reduce IntOp.andi x v reducesTo_S64x25_S_d0_1 h_S_) main_v20 main_c_7
  let main_v22 : IVec S_ 1 := andi main_v17 main_v21
  let main_v23 : FVec F S25 .f32 := Host.absf main_arg14
  let main_cst_8 : FVec F S_ .f32 := constant S_ .f32 0x7F800000#32
  let main_v24 : FVec F S25 .f32 := broadcastInDim S25 ![] bcast_S_S25 main_cst_8
  let main_v25 : IVec S25 1 := cmpf .olt main_v23 main_v24
  let main_c_9 : IVec S_ 1 := constantI S_ 1 1#1
  let main_v26 : IVec S_ 1 := (fun x v => Host.reduce IntOp.andi x v reducesTo_S25_S_d0 h_S_) main_v25 main_c_9
  let main_v27 : IVec S_ 1 := andi main_v22 main_v26
  main_v27

def fn {F : FTy → Type} [FloatOps F] (main_arg0 : FVec F S2x1x256x256 .f32) (main_arg1 : FVec F S2x64x256x256 .f32) (main_arg2 : FVec F S2x256 .f32) (main_arg3 : FVec F S64x64x1x1 .f32) (main_arg4 : FVec F S64 .f32) (main_arg5 : FVec F S64x64x3x3 .f32) (main_arg6 : FVec F S64 .f32) (main_arg7 : FVec F S64x64x1x1 .f32) (main_arg8 : FVec F S64 .f32) (main_arg9 : FVec F S25x64x1x1 .f32) (main_arg10 : FVec F S25 .f32) (main_arg11 : FVec F S256x64 .f32) (main_arg12 : FVec F S64 .f32) (main_arg13 : FVec F S64x25 .f32) (main_arg14 : FVec F S25 .f32) : IVec S_ 1 :=
  let main_cst : FVec F S_ .f32 := constant S_ .f32 0x00000000#32
  let main_v0 : FVec F S64 .f32 := broadcastInDim S64 ![] bcast_S_S64 main_cst
  let main_v1 : IVec S64 1 := cmpf .ole main_arg4 main_v0
  let main_c : IVec S_ 1 := constantI S_ 1 1#1
  let main_v2 : IVec S_ 1 := (fun x v => Host.reduce IntOp.andi x v reducesTo_S64_S_d0 h_S_) main_v1 main_c
  let main_v3 : FVec F S2x256 .f32 := Host.absf main_arg2
  let main_cst_0 : FVec F S_ .f32 := constant S_ .f32 0x7F800000#32
  let main_v4 : FVec F S2x256 .f32 := broadcastInDim S2x256 ![] bcast_S_S2x256 main_cst_0
  let main_v5 : IVec S2x256 1 := cmpf .olt main_v3 main_v4
  let main_c_1 : IVec S_ 1 := constantI S_ 1 1#1
  let main_v6 : IVec S_ 1 := (fun x v => Host.reduce IntOp.andi x v reducesTo_S2x256_S_d0_1 h_S_) main_v5 main_c_1
  let main_v7 : IVec S_ 1 := andi main_v2 main_v6
  let main_v8 : FVec F S256x64 .f32 := Host.absf main_arg11
  let main_cst_2 : FVec F S_ .f32 := constant S_ .f32 0x7F800000#32
  let main_v9 : FVec F S256x64 .f32 := broadcastInDim S256x64 ![] bcast_S_S256x64 main_cst_2
  let main_v10 : IVec S256x64 1 := cmpf .olt main_v8 main_v9
  let main_c_3 : IVec S_ 1 := constantI S_ 1 1#1
  let main_v11 : IVec S_ 1 := (fun x v => Host.reduce IntOp.andi x v reducesTo_S256x64_S_d0_1 h_S_) main_v10 main_c_3
  let main_v12 : IVec S_ 1 := andi main_v7 main_v11
  let main_v13 : FVec F S64 .f32 := Host.absf main_arg12
  let main_cst_4 : FVec F S_ .f32 := constant S_ .f32 0x7F800000#32
  let main_v14 : FVec F S64 .f32 := broadcastInDim S64 ![] bcast_S_S64 main_cst_4
  let main_v15 : IVec S64 1 := cmpf .olt main_v13 main_v14
  let main_c_5 : IVec S_ 1 := constantI S_ 1 1#1
  fn_part1 (F := F) main_arg13 main_arg14 main_v12 main_v15 main_c_5
-- ==== Kernel.lean ====
abbrev S2x1x256x256 : Shape := ⟨4, ![2, 1, 256, 256]⟩
abbrev S2x64x256x256 : Shape := ⟨4, ![2, 64, 256, 256]⟩
abbrev S2x256 : Shape := ⟨2, ![2, 256]⟩
abbrev S64x64x1x1 : Shape := ⟨4, ![64, 64, 1, 1]⟩
abbrev S64 : Shape := ⟨1, ![64]⟩
abbrev S64x64x3x3 : Shape := ⟨4, ![64, 64, 3, 3]⟩
abbrev S25x64x1x1 : Shape := ⟨4, ![25, 64, 1, 1]⟩
abbrev S25 : Shape := ⟨1, ![25]⟩
abbrev S256x64 : Shape := ⟨2, ![256, 64]⟩
abbrev S64x25 : Shape := ⟨2, ![64, 25]⟩
abbrev S_ : Shape := ⟨0, ![]⟩
abbrev S2x64x264x256 : Shape := ⟨4, ![2, 64, 264, 256]⟩
abbrev S2x64x67584 : Shape := ⟨3, ![2, 64, 67584]⟩
abbrev S2x1x260x256 : Shape := ⟨4, ![2, 1, 260, 256]⟩
abbrev S2x1x66560 : Shape := ⟨3, ![2, 1, 66560]⟩
abbrev S64x64 : Shape := ⟨2, ![64, 64]⟩
abbrev S3x64x3x64 : Shape := ⟨4, ![3, 64, 3, 64]⟩
abbrev S3x64x192 : Shape := ⟨3, ![3, 64, 192]⟩
abbrev S25x64 : Shape := ⟨2, ![25, 64]⟩
abbrev S64x256 : Shape := ⟨2, ![64, 256]⟩
abbrev S2x1x256 : Shape := ⟨3, ![2, 1, 256]⟩
abbrev S64x1 : Shape := ⟨2, ![64, 1]⟩
abbrev S25x1 : Shape := ⟨2, ![25, 1]⟩
abbrev S1x1x66560 : Shape := ⟨3, ![1, 1, 66560]⟩
abbrev S1x64x67584 : Shape := ⟨3, ![1, 64, 67584]⟩
abbrev S1x1x256 : Shape := ⟨3, ![1, 1, 256]⟩
abbrev S1x1x64x256 : Shape := ⟨4, ![1, 1, 64, 256]⟩
abbrev S256 : Shape := ⟨1, ![256]⟩
abbrev S256x1 : Shape := ⟨2, ![256, 1]⟩
abbrev S1x64x18432 : Shape := ⟨3, ![1, 64, 18432]⟩
abbrev S64x18432 : Shape := ⟨2, ![64, 18432]⟩
abbrev S1x18432 : Shape := ⟨2, ![1, 18432]⟩
abbrev S64x2 : Shape := ⟨2, ![64, 2]⟩
abbrev S64x18430 : Shape := ⟨2, ![64, 18430]⟩
abbrev S192x18432 : Shape := ⟨2, ![192, 18432]⟩
abbrev S1x64x192 : Shape := ⟨3, ![1, 64, 192]⟩
abbrev S64x192 : Shape := ⟨2, ![64, 192]⟩
abbrev S192x17408 : Shape := ⟨2, ![192, 17408]⟩
abbrev S64x17408 : Shape := ⟨2, ![64, 17408]⟩
abbrev S1x64x17408 : Shape := ⟨3, ![1, 64, 17408]⟩
abbrev S25x17408 : Shape := ⟨2, ![25, 17408]⟩
abbrev S17408 : Shape := ⟨1, ![17408]⟩
abbrev S1x17408 : Shape := ⟨2, ![1, 17408]⟩
abbrev S1x1x17408 : Shape := ⟨3, ![1, 1, 17408]⟩
abbrev S25x68x256 : Shape := ⟨3, ![25, 68, 256]⟩
abbrev S1x64x256 : Shape := ⟨3, ![1, 64, 256]⟩
abbrev S64x254 : Shape := ⟨2, ![64, 254]⟩
abbrev S64x255 : Shape := ⟨2, ![64, 255]⟩

abbrev nBuf : Space → Nat
  | .hbm => 45
  | .vmem => 21
  | .smem => 0
  | _ => 0

abbrev bufTy : (tb : Table) → Fin (tcTables nBuf tb) → BufTy
  | .hbm, ⟨0, _⟩ => ⟨S2x1x256x256, .f32⟩
  | .hbm, ⟨1, _⟩ => ⟨S2x64x256x256, .f32⟩
  | .hbm, ⟨2, _⟩ => ⟨S2x256, .f32⟩
  | .hbm, ⟨3, _⟩ => ⟨S64x64x1x1, .f32⟩
  | .hbm, ⟨4, _⟩ => ⟨S64, .f32⟩
  | .hbm, ⟨5, _⟩ => ⟨S64x64x3x3, .f32⟩
  | .hbm, ⟨6, _⟩ => ⟨S64, .f32⟩
  | .hbm, ⟨7, _⟩ => ⟨S64x64x1x1, .f32⟩
  | .hbm, ⟨8, _⟩ => ⟨S64, .f32⟩
  | .hbm, ⟨9, _⟩ => ⟨S25x64x1x1, .f32⟩
  | .hbm, ⟨10, _⟩ => ⟨S25, .f32⟩
  | .hbm, ⟨11, _⟩ => ⟨S256x64, .f32⟩
  | .hbm, ⟨12, _⟩ => ⟨S64, .f32⟩
  | .hbm, ⟨13, _⟩ => ⟨S64x25, .f32⟩
  | .hbm, ⟨14, _⟩ => ⟨S25, .f32⟩
  | .hbm, ⟨15, _⟩ => ⟨S_, .i32⟩
  | .hbm, ⟨16, _⟩ => ⟨S_, .f32⟩
  | .hbm, ⟨17, _⟩ => ⟨S2x64x264x256, .f32⟩
  | .hbm, ⟨18, _⟩ => ⟨S2x64x264x256, .bf16⟩
  | .hbm, ⟨19, _⟩ => ⟨S2x64x67584, .bf16⟩
  | .hbm, ⟨20, _⟩ => ⟨S_, .i32⟩
  | .hbm, ⟨21, _⟩ => ⟨S_, .f32⟩
  | .hbm, ⟨22, _⟩ => ⟨S2x1x260x256, .f32⟩
  | .hbm, ⟨23, _⟩ => ⟨S2x1x66560, .f32⟩
  | .hbm, ⟨24, _⟩ => ⟨S64x64, .f32⟩
  | .hbm, ⟨25, _⟩ => ⟨S64x64, .bf16⟩
  | .hbm, ⟨26, _⟩ => ⟨S3x64x3x64, .f32⟩
  | .hbm, ⟨27, _⟩ => ⟨S3x64x192, .f32⟩
  | .hbm, ⟨28, _⟩ => ⟨S3x64x192, .bf16⟩
  | .hbm, ⟨29, _⟩ => ⟨S64x64, .f32⟩
  | .hbm, ⟨30, _⟩ => ⟨S64x64, .bf16⟩
  | .hbm, ⟨31, _⟩ => ⟨S25x64, .f32⟩
  | .hbm, ⟨32, _⟩ => ⟨S25x64, .bf16⟩
  | .hbm, ⟨33, _⟩ => ⟨S64x256, .f32⟩
  | .hbm, ⟨34, _⟩ => ⟨S64x256, .bf16⟩
  | .hbm, ⟨35, _⟩ => ⟨S25x64, .f32⟩
  | .hbm, ⟨36, _⟩ => ⟨S25x64, .bf16⟩
  | .hbm, ⟨37, _⟩ => ⟨S2x1x256, .f32⟩
  | .hbm, ⟨38, _⟩ => ⟨S64x1, .f32⟩
  | .hbm, ⟨39, _⟩ => ⟨S64x1, .f32⟩
  | .hbm, ⟨40, _⟩ => ⟨S64x1, .f32⟩
  | .hbm, ⟨41, _⟩ => ⟨S25x1, .f32⟩
  | .hbm, ⟨42, _⟩ => ⟨S64x1, .f32⟩
  | .hbm, ⟨43, _⟩ => ⟨S25x1, .f32⟩
  | .hbm, ⟨44, _⟩ => ⟨S2x1x256x256, .f32⟩
  | .local _ .vmem, ⟨0, _⟩ => ⟨S1x1x66560, .f32⟩
  | .local _ .vmem, ⟨1, _⟩ => ⟨S1x1x66560, .f32⟩
  | .local _ .vmem, ⟨2, _⟩ => ⟨S1x64x67584, .bf16⟩
  | .local _ .vmem, ⟨3, _⟩ => ⟨S1x64x67584, .bf16⟩
  | .local _ .vmem, ⟨4, _⟩ => ⟨S1x1x256, .f32⟩
  | .local _ .vmem, ⟨5, _⟩ => ⟨S1x1x256, .f32⟩
  | .local _ .vmem, ⟨6, _⟩ => ⟨S64x64, .bf16⟩
  | .local _ .vmem, ⟨7, _⟩ => ⟨S64x1, .f32⟩
  | .local _ .vmem, ⟨8, _⟩ => ⟨S3x64x192, .bf16⟩
  | .local _ .vmem, ⟨9, _⟩ => ⟨S64x1, .f32⟩
  | .local _ .vmem, ⟨10, _⟩ => ⟨S64x64, .bf16⟩
  | .local _ .vmem, ⟨11, _⟩ => ⟨S64x1, .f32⟩
  | .local _ .vmem, ⟨12, _⟩ => ⟨S25x64, .bf16⟩
  | .local _ .vmem, ⟨13, _⟩ => ⟨S25x1, .f32⟩
  | .local _ .vmem, ⟨14, _⟩ => ⟨S64x256, .bf16⟩
  | .local _ .vmem, ⟨15, _⟩ => ⟨S64x1, .f32⟩
  | .local _ .vmem, ⟨16, _⟩ => ⟨S25x64, .bf16⟩
  | .local _ .vmem, ⟨17, _⟩ => ⟨S25x1, .f32⟩
  | .local _ .vmem, ⟨18, _⟩ => ⟨S1x1x64x256, .f32⟩
  | .local _ .vmem, ⟨19, _⟩ => ⟨S1x1x64x256, .f32⟩
  | .local _ .vmem, ⟨20, _⟩ => ⟨S25x1, .f32⟩
  | _, _ => ⟨S2x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let c0 : Index := 0#32
  let c0_1 : Index := 0#32
  let arg1 : BitVec 32 := BitVec.ofNat 32 (i 1).val
  let c64_i32 : BitVec 32 := 64#32
  let v0 : BitVec 32 := Scalar.muli arg1 c64_i32
  let c256_i32 : BitVec 32 := 256#32
  let v4 : BitVec 32 := Scalar.muli v0 c256_i32
  let v5 : Index := Scalar.indexCast v4
  ![0, 0, v5.toNat]
def k0_off2 (i : grid0.Coords) : Fin 3 → Nat :=
  let c0_35 : Index := 0#32
  let c0_36 : Index := 0#32
  let arg1 : BitVec 32 := BitVec.ofNat 32 (i 1).val
  let c64_i32 : BitVec 32 := 64#32
  let v0 : BitVec 32 := Scalar.muli arg1 c64_i32
  let c2_i32_33 : BitVec 32 := 2#32
  let v81 : BitVec 32 := Scalar.addi v0 c2_i32_33
  let c256_i32_34 : BitVec 32 := 256#32
  let v82 : BitVec 32 := Scalar.muli v81 c256_i32_34
  let v83 : Index := Scalar.indexCast v82
  ![0, 0, v83.toNat]
def k0_off3 (i : grid0.Coords) : Fin 3 → Nat :=
  let c0_48 : Index := 0#32
  let c0_49 : Index := 0#32
  let arg1 : BitVec 32 := BitVec.ofNat 32 (i 1).val
  let c64_i32 : BitVec 32 := 64#32
  let v0 : BitVec 32 := Scalar.muli arg1 c64_i32
  let c256_i32_47 : BitVec 32 := 256#32
  let v108 : BitVec 32 := Scalar.muli v0 c256_i32_47
  let v109 : Index := Scalar.indexCast v108
  ![0, 0, v109.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x66560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x67584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x64x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S25x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S25x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S25x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S25x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S2x1x256x256 : Shape := ⟨4, ![2, 1, 256, 256]⟩
abbrev S2x64x256x256 : Shape := ⟨4, ![2, 64, 256, 256]⟩
abbrev S2x256 : Shape := ⟨2, ![2, 256]⟩
abbrev S64x64x1x1 : Shape := ⟨4, ![64, 64, 1, 1]⟩
abbrev S64 : Shape := ⟨1, ![64]⟩
abbrev S64x64x3x3 : Shape := ⟨4, ![64, 64, 3, 3]⟩
abbrev S25x64x1x1 : Shape := ⟨4, ![25, 64, 1, 1]⟩
abbrev S25 : Shape := ⟨1, ![25]⟩
abbrev S256x64 : Shape := ⟨2, ![256, 64]⟩
abbrev S64x25 : Shape := ⟨2, ![64, 25]⟩
abbrev S64x64 : Shape := ⟨2, ![64, 64]⟩
abbrev S2x256x256x64 : Shape := ⟨4, ![2, 256, 256, 64]⟩
abbrev S1x64x1x1 : Shape := ⟨4, ![1, 64, 1, 1]⟩
abbrev S_ : Shape := ⟨0, ![]⟩
abbrev S2x64x260x260 : Shape := ⟨4, ![2, 64, 260, 260]⟩
abbrev S25x64 : Shape := ⟨2, ![25, 64]⟩
abbrev S2x256x256x25 : Shape := ⟨4, ![2, 256, 256, 25]⟩
abbrev S2x25x256x256 : Shape := ⟨4, ![2, 25, 256, 256]⟩
abbrev S1x25x1x1 : Shape := ⟨4, ![1, 25, 1, 1]⟩
abbrev S2x256x256 : Shape := ⟨3, ![2, 256, 256]⟩
abbrev S2x64 : Shape := ⟨2, ![2, 64]⟩
abbrev S1x64 : Shape := ⟨2, ![1, 64]⟩
abbrev S2x25 : Shape := ⟨2, ![2, 25]⟩
abbrev S1x25 : Shape := ⟨2, ![1, 25]⟩
abbrev S2 : Shape := ⟨1, ![2]⟩
abbrev S2x1 : Shape := ⟨2, ![2, 1]⟩
abbrev S2x25x1x1 : Shape := ⟨4, ![2, 25, 1, 1]⟩
abbrev S2x25x260x260 : Shape := ⟨4, ![2, 25, 260, 260]⟩
abbrev S2x16x256x256 : Shape := ⟨4, ![2, 16, 256, 256]⟩
abbrev S2x9x256x256 : Shape := ⟨4, ![2, 9, 256, 256]⟩

abbrev nBuf : Space → Nat
  | .hbm => 292
  | .vmem => 0
  | .smem => 0
  | _ => 0

abbrev hbmTy0_0 (i : Nat) : BufTy := match i % 128 with
  | 0 => ⟨S2x1x256x256, .f32⟩
  | 1 => ⟨S2x64x256x256, .f32⟩
  | 2 => ⟨S2x256, .f32⟩
  | 3 => ⟨S64x64x1x1, .f32⟩
  | 4 => ⟨S64, .f32⟩
  | 5 => ⟨S64x64x3x3, .f32⟩
  | 6 => ⟨S64, .f32⟩
  | 7 => ⟨S64x64x1x1, .f32⟩
  | 8 => ⟨S64, .f32⟩
  | 9 => ⟨S25x64x1x1, .f32⟩
  | 10 => ⟨S25, .f32⟩
  | 11 => ⟨S256x64, .f32⟩
  | 12 => ⟨S64, .f32⟩
  | 13 => ⟨S64x25, .f32⟩
  | 14 => ⟨S25, .f32⟩
  | 15 => ⟨S64x64, .f32⟩
  | 16 => ⟨S2x256x256x64, .f32⟩
  | 17 => ⟨S2x64x256x256, .f32⟩
  | 18 => ⟨S1x64x1x1, .f32⟩
  | 19 => ⟨S2x64x256x256, .f32⟩
  | 20 => ⟨S2x64x256x256, .f32⟩
  | 21 => ⟨S_, .f32⟩
  | 22 => ⟨S2x64x256x256, .f32⟩
  | 23 => ⟨S2x64x256x256, .f32⟩
  | 24 => ⟨S_, .i32⟩
  | 25 => ⟨S_, .f32⟩
  | 26 => ⟨S2x64x260x260, .f32⟩
  | 27 => ⟨S1x64x1x1, .f32⟩
  | 28 => ⟨S64x64x1x1, .f32⟩
  | 29 => ⟨S64x64, .f32⟩
  | 30 => ⟨S2x64x256x256, .f32⟩
  | 31 => ⟨S2x256x256x64, .f32⟩
  | 32 => ⟨S2x64x256x256, .f32⟩
  | 33 => ⟨S2x64x256x256, .f32⟩
  | 34 => ⟨S2x64x256x256, .f32⟩
  | 35 => ⟨S64x64x1x1, .f32⟩
  | 36 => ⟨S64x64, .f32⟩
  | 37 => ⟨S2x64x256x256, .f32⟩
  | 38 => ⟨S2x256x256x64, .f32⟩
  | 39 => ⟨S2x64x256x256, .f32⟩
  | 40 => ⟨S2x64x256x256, .f32⟩
  | 41 => ⟨S64x64x1x1, .f32⟩
  | 42 => ⟨S64x64, .f32⟩
  | 43 => ⟨S2x64x256x256, .f32⟩
  | 44 => ⟨S2x256x256x64, .f32⟩
  | 45 => ⟨S2x64x256x256, .f32⟩
  | 46 => ⟨S2x64x256x256, .f32⟩
  | 47 => ⟨S64x64x1x1, .f32⟩
  | 48 => ⟨S64x64, .f32⟩
  | 49 => ⟨S2x64x256x256, .f32⟩
  | 50 => ⟨S2x256x256x64, .f32⟩
  | 51 => ⟨S2x64x256x256, .f32⟩
  | 52 => ⟨S2x64x256x256, .f32⟩
  | 53 => ⟨S64x64x1x1, .f32⟩
  | 54 => ⟨S64x64, .f32⟩
  | 55 => ⟨S2x64x256x256, .f32⟩
  | 56 => ⟨S2x256x256x64, .f32⟩
  | 57 => ⟨S2x64x256x256, .f32⟩
  | 58 => ⟨S2x64x256x256, .f32⟩
  | 59 => ⟨S64x64x1x1, .f32⟩
  | 60 => ⟨S64x64, .f32⟩
  | 61 => ⟨S2x64x256x256, .f32⟩
  | 62 => ⟨S2x256x256x64, .f32⟩
  | 63 => ⟨S2x64x256x256, .f32⟩
  | 64 => ⟨S2x64x256x256, .f32⟩
  | 65 => ⟨S64x64x1x1, .f32⟩
  | 66 => ⟨S64x64, .f32⟩
  | 67 => ⟨S2x64x256x256, .f32⟩
  | 68 => ⟨S2x256x256x64, .f32⟩
  | 69 => ⟨S2x64x256x256, .f32⟩
  | 70 => ⟨S2x64x256x256, .f32⟩
  | 71 => ⟨S64x64x1x1, .f32⟩
  | 72 => ⟨S64x64, .f32⟩
  | 73 => ⟨S2x64x256x256, .f32⟩
  | 74 => ⟨S2x256x256x64, .f32⟩
  | 75 => ⟨S2x64x256x256, .f32⟩
  | 76 => ⟨S2x64x256x256, .f32⟩
  | 77 => ⟨S64x64x1x1, .f32⟩
  | 78 => ⟨S64x64, .f32⟩
  | 79 => ⟨S2x64x256x256, .f32⟩
  | 80 => ⟨S2x256x256x64, .f32⟩
  | 81 => ⟨S2x64x256x256, .f32⟩
  | 82 => ⟨S2x64x256x256, .f32⟩
  | 83 => ⟨S_, .f32⟩
  | 84 => ⟨S2x64x256x256, .f32⟩
  | 85 => ⟨S2x64x256x256, .f32⟩
  | 86 => ⟨S64x64, .f32⟩
  | 87 => ⟨S2x256x256x64, .f32⟩
  | 88 => ⟨S2x64x256x256, .f32⟩
  | 89 => ⟨S1x64x1x1, .f32⟩
  | 90 => ⟨S2x64x256x256, .f32⟩
  | 91 => ⟨S2x64x256x256, .f32⟩
  | 92 => ⟨S2x64x256x256, .f32⟩
  | 93 => ⟨S_, .f32⟩
  | 94 => ⟨S2x64x256x256, .f32⟩
  | 95 => ⟨S2x64x256x256, .f32⟩
  | 96 => ⟨S25x64, .f32⟩
  | 97 => ⟨S2x256x256x25, .f32⟩
  | 98 => ⟨S2x25x256x256, .f32⟩
  | 99 => ⟨S1x25x1x1, .f32⟩
  | 100 => ⟨S2x25x256x256, .f32⟩
  | 101 => ⟨S2x25x256x256, .f32⟩
  | 102 => ⟨S_, .f32⟩
  | 103 => ⟨S2x256x256, .f32⟩
  | 104 => ⟨S_, .f32⟩
  | 105 => ⟨S2x256x256, .f32⟩
  | 106 => ⟨S2x256x256, .f32⟩
  | 107 => ⟨S2x1x256x256, .f32⟩
  | 108 => ⟨S2x25x256x256, .f32⟩
  | 109 => ⟨S2x25x256x256, .f32⟩
  | 110 => ⟨S2x25x256x256, .f32⟩
  | 111 => ⟨S_, .f32⟩
  | 112 => ⟨S2x256x256, .f32⟩
  | 113 => ⟨S2x1x256x256, .f32⟩
  | 114 => ⟨S2x1x256x256, .f32⟩
  | 115 => ⟨S2x25x256x256, .f32⟩
  | 116 => ⟨S2x25x256x256, .f32⟩
  | 117 => ⟨S2x64, .f32⟩
  | 118 => ⟨S1x64, .f32⟩
  | 119 => ⟨S2x64, .f32⟩
  | 120 => ⟨S2x64, .f32⟩
  | 121 => ⟨S_, .f32⟩
  | 122 => ⟨S2x64, .f32⟩
  | 123 => ⟨S2x64, .f32⟩
  | 124 => ⟨S2x25, .f32⟩
  | 125 => ⟨S1x25, .f32⟩
  | 126 => ⟨S2x25, .f32⟩
  | 127 => ⟨S2x25, .f32⟩
  | _ => ⟨S2x1x256x256, .f32⟩

abbrev hbmTy0_1 (i : Nat) : BufTy := match i % 128 with
  | 0 => ⟨S_, .f32⟩
  | 1 => ⟨S2, .f32⟩
  | 2 => ⟨S_, .f32⟩
  | 3 => ⟨S2, .f32⟩
  | 4 => ⟨S2, .f32⟩
  | 5 => ⟨S2x1, .f32⟩
  | 6 => ⟨S2x25, .f32⟩
  | 7 => ⟨S2x25, .f32⟩
  | 8 => ⟨S2x25, .f32⟩
  | 9 => ⟨S_, .f32⟩
  | 10 => ⟨S2, .f32⟩
  | 11 => ⟨S2x1, .f32⟩
  | 12 => ⟨S2x1, .f32⟩
  | 13 => ⟨S2x25, .f32⟩
  | 14 => ⟨S2x25, .f32⟩
  | 15 => ⟨S2x25x1x1, .f32⟩
  | 16 => ⟨S2x25x256x256, .f32⟩
  | 17 => ⟨S2x25x256x256, .f32⟩
  | 18 => ⟨S_, .f32⟩
  | 19 => ⟨S2x256x256, .f32⟩
  | 20 => ⟨S2x1x256x256, .f32⟩
  | 21 => ⟨S2x1x256x256, .f32⟩
  | 22 => ⟨S_, .f32⟩
  | 23 => ⟨S2x1x256x256, .f32⟩
  | 24 => ⟨S2x1x256x256, .i1⟩
  | 25 => ⟨S_, .f32⟩
  | 26 => ⟨S_, .f32⟩
  | 27 => ⟨S2x1x256x256, .f32⟩
  | 28 => ⟨S2x1x256x256, .f32⟩
  | 29 => ⟨S2x25x256x256, .f32⟩
  | 30 => ⟨S2x25x256x256, .f32⟩
  | 31 => ⟨S2x25x256x256, .f32⟩
  | 32 => ⟨S_, .f32⟩
  | 33 => ⟨S2x256x256, .f32⟩
  | 34 => ⟨S2x1x256x256, .f32⟩
  | 35 => ⟨S2x1x256x256, .f32⟩
  | 36 => ⟨S2x1x256x256, .f32⟩
  | 37 => ⟨S2x25x256x256, .f32⟩
  | 38 => ⟨S2x25x256x256, .f32⟩
  | 39 => ⟨S2x25x256x256, .f32⟩
  | 40 => ⟨S2x25x256x256, .f32⟩
  | 41 => ⟨S_, .f32⟩
  | 42 => ⟨S_, .f32⟩
  | 43 => ⟨S2x25x260x260, .f32⟩
  | 44 => ⟨S2x1x256x256, .f32⟩
  | 45 => ⟨S2x256x256, .f32⟩
  | 46 => ⟨S2x1x256x256, .f32⟩
  | 47 => ⟨S2x256x256, .f32⟩
  | 48 => ⟨S2x1x256x256, .f32⟩
  | 49 => ⟨S2x256x256, .f32⟩
  | 50 => ⟨S2x1x256x256, .f32⟩
  | 51 => ⟨S2x256x256, .f32⟩
  | 52 => ⟨S2x1x256x256, .f32⟩
  | 53 => ⟨S2x256x256, .f32⟩
  | 54 => ⟨S2x1x256x256, .f32⟩
  | 55 => ⟨S2x256x256, .f32⟩
  | 56 => ⟨S2x1x256x256, .f32⟩
  | 57 => ⟨S2x256x256, .f32⟩
  | 58 => ⟨S2x1x256x256, .f32⟩
  | 59 => ⟨S2x256x256, .f32⟩
  | 60 => ⟨S2x1x256x256, .f32⟩
  | 61 => ⟨S2x256x256, .f32⟩
  | 62 => ⟨S2x1x256x256, .f32⟩
  | 63 => ⟨S2x256x256, .f32⟩
  | 64 => ⟨S2x1x256x256, .f32⟩
  | 65 => ⟨S2x256x256, .f32⟩
  | 66 => ⟨S2x1x256x256, .f32⟩
  | 67 => ⟨S2x256x256, .f32⟩
  | 68 => ⟨S2x1x256x256, .f32⟩
  | 69 => ⟨S2x256x256, .f32⟩
  | 70 => ⟨S2x1x256x256, .f32⟩
  | 71 => ⟨S2x256x256, .f32⟩
  | 72 => ⟨S2x1x256x256, .f32⟩
  | 73 => ⟨S2x256x256, .f32⟩
  | 74 => ⟨S2x1x256x256, .f32⟩
  | 75 => ⟨S2x256x256, .f32⟩
  | 76 => ⟨S2x1x256x256, .f32⟩
  | 77 => ⟨S2x256x256, .f32⟩
  | 78 => ⟨S2x1x256x256, .f32⟩
  | 79 => ⟨S2x256x256, .f32⟩
  | 80 => ⟨S2x1x256x256, .f32⟩
  | 81 => ⟨S2x256x256, .f32⟩
  | 82 => ⟨S2x1x256x256, .f32⟩
  | 83 => ⟨S2x256x256, .f32⟩
  | 84 => ⟨S2x1x256x256, .f32⟩
  | 85 => ⟨S2x256x256, .f32⟩
  | 86 => ⟨S2x1x256x256, .f32⟩
  | 87 => ⟨S2x256x256, .f32⟩
  | 88 => ⟨S2x1x256x256, .f32⟩
  | 89 => ⟨S2x256x256, .f32⟩
  | 90 => ⟨S2x1x256x256, .f32⟩
  | 91 => ⟨S2x256x256, .f32⟩
  | 92 => ⟨S2x1x256x256, .f32⟩
  | 93 => ⟨S2x256x256, .f32⟩
  | 94 => ⟨S2x1x256x256, .f32⟩
  | 95 => ⟨S2x1x256x256, .f32⟩
  | 96 => ⟨S2x1x256x256, .f32⟩
  | 97 => ⟨S2x1x256x256, .f32⟩
  | 98 => ⟨S2x1x256x256, .f32⟩
  | 99 => ⟨S2x1x256x256, .f32⟩
  | 100 => ⟨S2x1x256x256, .f32⟩
  | 101 => ⟨S2x1x256x256, .f32⟩
  | 102 => ⟨S2x1x256x256, .f32⟩
  | 103 => ⟨S2x1x256x256, .f32⟩
  | 104 => ⟨S2x1x256x256, .f32⟩
  | 105 => ⟨S2x1x256x256, .f32⟩
  | 106 => ⟨S2x1x256x256, .f32⟩
  | 107 => ⟨S2x1x256x256, .f32⟩
  | 108 => ⟨S2x1x256x256, .f32⟩
  | 109 => ⟨S2x1x256x256, .f32⟩
  | 110 => ⟨S2x1x256x256, .f32⟩
  | 111 => ⟨S2x1x256x256, .f32⟩
  | 112 => ⟨S2x1x256x256, .f32⟩
  | 113 => ⟨S2x1x256x256, .f32⟩
  | 114 => ⟨S2x1x256x256, .f32⟩
  | 115 => ⟨S2x1x256x256, .f32⟩
  | 116 => ⟨S2x1x256x256, .f32⟩
  | 117 => ⟨S2x1x256x256, .f32⟩
  | 118 => ⟨S2x1x256x256, .f32⟩
  | 119 => ⟨S2x16x256x256, .f32⟩
  | 120 => ⟨S2x9x256x256, .f32⟩
  | 121 => ⟨S2x25x256x256, .f32⟩
  | 122 => ⟨S_, .f32⟩
  | 123 => ⟨S2x256x256, .f32⟩
  | 124 => ⟨S2x1x256x256, .f32⟩
  | 125 => ⟨S2x25x256x256, .f32⟩
  | 126 => ⟨S_, .f32⟩
  | 127 => ⟨S2x25x256x256, .f32⟩
  | _ => ⟨S2x1x256x256, .f32⟩

abbrev hbmTy0_2 (i : Nat) : BufTy := match i % 128 with
  | 0 => ⟨S2x25x256x256, .i1⟩
  | 1 => ⟨S2x25x256x256, .i1⟩
  | 2 => ⟨S2x1x256x256, .f32⟩
  | 3 => ⟨S_, .f32⟩
  | 4 => ⟨S2x1x256x256, .f32⟩
  | 5 => ⟨S2x1x256x256, .i1⟩
  | 6 => ⟨S2x1x256x256, .i1⟩
  | 7 => ⟨S2x25x256x256, .i1⟩
  | 8 => ⟨S2x25x256x256, .i1⟩
  | 9 => ⟨S_, .f32⟩
  | 10 => ⟨S_, .f32⟩
  | 11 => ⟨S2x25x256x256, .f32⟩
  | 12 => ⟨S2x25x256x256, .f32⟩
  | 13 => ⟨S2x25x256x256, .f32⟩
  | 14 => ⟨S2x25x256x256, .f32⟩
  | 15 => ⟨S2x25x256x256, .f32⟩
  | 16 => ⟨S_, .f32⟩
  | 17 => ⟨S2x256x256, .f32⟩
  | 18 => ⟨S2x256x256, .f32⟩
  | 19 => ⟨S_, .f32⟩
  | 20 => ⟨S2x256x256, .f32⟩
  | 21 => ⟨S2x256x256, .i1⟩
  | 22 => ⟨S2x256x256, .i1⟩
  | 23 => ⟨S2x256x256, .f32⟩
  | 24 => ⟨S_, .f32⟩
  | 25 => ⟨S2x256x256, .f32⟩
  | 26 => ⟨S2x256x256, .i1⟩
  | 27 => ⟨S2x256x256, .i1⟩
  | 28 => ⟨S2x256x256, .i1⟩
  | 29 => ⟨S_, .f32⟩
  | 30 => ⟨S_, .f32⟩
  | 31 => ⟨S2x256x256, .f32⟩
  | 32 => ⟨S2x256x256, .f32⟩
  | 33 => ⟨S2x256x256, .f32⟩
  | 34 => ⟨S2x256x256, .f32⟩
  | 35 => ⟨S2x1x256x256, .f32⟩
  | _ => ⟨S2x1x256x256, .f32⟩

abbrev hbmTy (i : Nat) : BufTy := match i / 128 with
  | 0 => hbmTy0_0 i
  | 1 => hbmTy0_1 i
  | 2 => hbmTy0_2 i
  | _ => ⟨S2x1x256x256, .f32⟩

abbrev bufTy : (tb : Table) → Fin (tcTables nBuf tb) → BufTy
  | .hbm, ⟨i, _⟩ => hbmTy i
  | _, _ => ⟨S2x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call0_cst : Ref sig .tc := ⟨.hbm, 21, rfl⟩
abbrev main_call0_v0 : Ref sig .tc := ⟨.hbm, 22, rfl⟩
abbrev main_v6 : Ref sig .tc := ⟨.hbm, 23, rfl⟩
abbrev main_c : Ref sig .tc := ⟨.hbm, 24, rfl⟩
abbrev main_call1_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call2_cst : Ref sig .tc := ⟨.hbm, 83, rfl⟩
abbrev main_call2_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_call3_cst : Ref sig .tc := ⟨.hbm, 93, rfl⟩
abbrev main_call3_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_call4_cst : Ref sig .tc := ⟨.hbm, 102, rfl⟩
abbrev main_call4_v0 : Ref sig .tc := ⟨.hbm, 103, rfl⟩
abbrev main_call4_cst_0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_v6 : Ref sig .tc := ⟨.hbm, 110, rfl⟩
abbrev main_call4_cst_1 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call5_cst : Ref sig .tc := ⟨.hbm, 121, rfl⟩
abbrev main_call5_v0 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call6_cst : Ref sig .tc := ⟨.hbm, 128, rfl⟩
abbrev main_call6_v0 : Ref sig .tc := ⟨.hbm, 129, rfl⟩
abbrev main_call6_cst_0 : Ref sig .tc := ⟨.hbm, 130, rfl⟩
abbrev main_call6_v1 : Ref sig .tc := ⟨.hbm, 131, rfl⟩
abbrev main_call6_v2 : Ref sig .tc := ⟨.hbm, 132, rfl⟩
abbrev main_call6_v3 : Ref sig .tc := ⟨.hbm, 133, rfl⟩
abbrev main_call6_v4 : Ref sig .tc := ⟨.hbm, 134, rfl⟩
abbrev main_call6_v5 : Ref sig .tc := ⟨.hbm, 135, rfl⟩
abbrev main_call6_v6 : Ref sig .tc := ⟨.hbm, 136, rfl⟩
abbrev main_call6_cst_1 : Ref sig .tc := ⟨.hbm, 137, rfl⟩
abbrev main_call6_v7 : Ref sig .tc := ⟨.hbm, 138, rfl⟩
abbrev main_call6_v8 : Ref sig .tc := ⟨.hbm, 139, rfl⟩
abbrev main_call6_v9 : Ref sig .tc := ⟨.hbm, 140, rfl⟩
abbrev main_call6_v10 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst : Ref sig .tc := ⟨.hbm, 146, rfl⟩
abbrev main_v93 : Ref sig .tc := ⟨.hbm, 147, rfl⟩
abbrev main_v94 : Ref sig .tc := ⟨.hbm, 148, rfl⟩
abbrev main_call7_v0 : Ref sig .tc := ⟨.hbm, 149, rfl⟩
abbrev main_call7_cst : Ref sig .tc := ⟨.hbm, 150, rfl⟩
abbrev main_call7_v1 : Ref sig .tc := ⟨.hbm, 151, rfl⟩
abbrev main_v95 : Ref sig .tc := ⟨.hbm, 152, rfl⟩
abbrev main_cst_0 : Ref sig .tc := ⟨.hbm, 153, rfl⟩
abbrev main_call8_v0 : Ref sig .tc := ⟨.hbm, 154, rfl⟩
abbrev main_call8_v1 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_1 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_cst_2 : Ref sig .tc := ⟨.hbm, 169, rfl⟩
abbrev main_call9_v0 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_cst_3 : Ref sig .tc := ⟨.hbm, 250, rfl⟩
abbrev main_v187 : Ref sig .tc := ⟨.hbm, 251, rfl⟩
abbrev main_v188 : Ref sig .tc := ⟨.hbm, 252, rfl⟩
abbrev main_call10_v0 : Ref sig .tc := ⟨.hbm, 253, rfl⟩
abbrev main_call10_cst : Ref sig .tc := ⟨.hbm, 254, rfl⟩
abbrev main_call10_v1 : Ref sig .tc := ⟨.hbm, 255, rfl⟩
abbrev main_v189 : Ref sig .tc := ⟨.hbm, 256, rfl⟩
abbrev main_v190 : Ref sig .tc := ⟨.hbm, 257, rfl⟩
abbrev main_call11_v0 : Ref sig .tc := ⟨.hbm, 258, rfl⟩
abbrev main_call11_cst : Ref sig .tc := ⟨.hbm, 259, rfl⟩
abbrev main_call11_v1 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_cst_4 : Ref sig .tc := ⟨.hbm, 265, rfl⟩
abbrev main_call12_v0 : Ref sig .tc := ⟨.hbm, 266, rfl⟩
abbrev main_call12_v1 : Ref sig .tc := ⟨.hbm, 267, rfl⟩
abbrev main_call12_v2 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_cst_5 : Ref sig .tc := ⟨.hbm, 272, rfl⟩
abbrev main_v198 : Ref sig .tc := ⟨.hbm, 273, rfl⟩
abbrev main_call13_v0 : Ref sig .tc := ⟨.hbm, 274, rfl⟩
abbrev main_call13_cst : Ref sig .tc := ⟨.hbm, 275, rfl⟩
abbrev main_call13_v1 : Ref sig .tc := ⟨.hbm, 276, rfl⟩
abbrev main_v199 : Ref sig .tc := ⟨.hbm, 277, rfl⟩
abbrev main_v200 : Ref sig .tc := ⟨.hbm, 278, rfl⟩
abbrev main_call14_v0 : Ref sig .tc := ⟨.hbm, 279, rfl⟩
abbrev main_call14_cst : Ref sig .tc := ⟨.hbm, 280, rfl⟩
abbrev main_call14_v1 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_cst_6 : Ref sig .tc := ⟨.hbm, 285, rfl⟩
abbrev main_call15_v0 : Ref sig .tc := ⟨.hbm, 286, rfl⟩
abbrev main_call15_v1 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩

abbrev nD : Nat := 1
abbrev τ : Topo := Topo.v7x

variable {F : FTy → Type} [FloatOps F]
-- ==== Proof.Softmax.lean ====
/- The mathematics of one pixel, over the extended reals: what the softmax of a sum of two rows of logits,
   multiplied by the exponential of a belief, is as the exponential of a normalised sum of two log-softmaxes;
   and what the guarded log-sum-exp of a row is as the plain logarithm of a sum of exponentials. -/
module

public import Idealize.ShloMosaic.PureOps.Ideal
public import Mathlib.Analysis.SpecialFunctions.Log.Basic

@[expose] public section

noncomputable section

namespace Cert.Belief

open Idealize.ShloMosaic

variable {ι : Type} [Fintype ι]

/-- The exponential of an extended real as a real weight. -/
def wt (x : EReal) : ℝ := (Ideal.exp x).toReal

/-- The sum of the weights of a row. -/
def mass (f : ι → EReal) : ℝ := ∑ k, wt (f k)

/-- `M` is the greatest entry of the row `f`. -/
def IsTop (f : ι → EReal) (M : EReal) : Prop := (∀ k, f k ≤ M) ∧ ∃ k, f k = M

/-- No entry of the row is `⊤` and not every entry is `⊥`. -/
def Tame (f : ι → EReal) : Prop := (∀ k, f k ≠ ⊤) ∧ ∃ k, f k ≠ ⊥

/-- The exponential of minus infinity. -/
theorem exp_bot : Ideal.exp ⊥ = 0 := rfl
/-- The exponential of plus infinity. -/
theorem exp_top : Ideal.exp ⊤ = ⊤ := rfl
/-- The exponential of a real number. -/
theorem exp_coe (r : ℝ) : Ideal.exp (r : EReal) = ((Real.exp r : ℝ) : EReal) := rfl
/-- The logarithm of minus infinity. -/
theorem log_bot : Ideal.log ⊥ = ⊥ := rfl
/-- The logarithm of plus infinity. -/
theorem log_top : Ideal.log ⊤ = ⊤ := rfl
/-- The logarithm of a real number: minus infinity where it is not positive. -/
theorem log_coe (r : ℝ) : Ideal.log (r : EReal) = if r ≤ 0 then ⊥ else ((Real.log r : ℝ) : EReal) := rfl
/-- Minus infinity has weight zero. -/
theorem wt_bot : wt ⊥ = 0 := rfl
/-- The weight of a real number. -/
theorem wt_coe (r : ℝ) : wt (r : EReal) = Real.exp r := rfl

/-- The logarithm of zero is minus infinity. -/
theorem log_zero : Ideal.log 0 = ⊥ := by
  rw [← EReal.coe_zero, log_coe, if_pos le_rfl]

/-- The logarithm of one is zero. -/
theorem log_one : Ideal.log 1 = 0 := by
  rw [← EReal.coe_one, log_coe, if_neg (by norm_num), Real.log_one, EReal.coe_zero]

/-- No exponential is negative. -/
theorem exp_nonneg (x : EReal) : 0 ≤ Ideal.exp x := by
  induction x with
  | bot => exact le_rfl
  | top => exact le_top
  | coe r => rw [exp_coe]; exact_mod_cast (Real.exp_pos r).le

/-- Nothing but `⊥` is left of `x - ⊤`. -/
theorem sub_top (x : EReal) : x - ⊤ = ⊥ := by
  rw [sub_eq_add_neg, EReal.neg_top, EReal.add_bot]

/-- Minus infinity less anything is minus infinity. -/
theorem bot_sub' (x : EReal) : ⊥ - x = ⊥ := by
  rw [sub_eq_add_neg, EReal.bot_add]

/-- A finite sum of reals, read in the extended reals. -/
theorem coe_sum (g : ι → ℝ) : (∑ k, ((g k : ℝ) : EReal)) = ((∑ k, g k : ℝ) : EReal) := by
  classical
  induction (Finset.univ : Finset ι) using Finset.induction_on with
  | empty => rfl
  | insert a s ha ih => rw [Finset.sum_insert ha, Finset.sum_insert ha, ih, EReal.coe_add]

/-- No weight is negative. -/
theorem wt_nonneg (x : EReal) : 0 ≤ wt x := EReal.toReal_nonneg (exp_nonneg x)

/-- Below plus infinity the exponential is the weight. -/
theorem exp_eq_wt {x : EReal} (hx : x ≠ ⊤) : Ideal.exp x = ((wt x : ℝ) : EReal) := by
  induction x with
  | bot => rfl
  | top => exact absurd rfl hx
  | coe r => rfl

/-- The exponential of a difference with a real number. -/
theorem exp_sub {x : EReal} (hx : x ≠ ⊤) (m : ℝ) :
    Ideal.exp (x - (m : EReal)) = ((wt x * Real.exp (-m) : ℝ) : EReal) := by
  induction x with
  | bot => rw [bot_sub', exp_bot, wt_bot, zero_mul, EReal.coe_zero]
  | top => exact absurd rfl hx
  | coe r => rw [← EReal.coe_sub, exp_coe, wt_coe, sub_eq_add_neg, Real.exp_add]

/-- The weight of a difference with a real number. -/
theorem wt_sub {x : EReal} (hx : x ≠ ⊤) (m : ℝ) : wt (x - (m : EReal)) = wt x * Real.exp (-m) := by
  rw [wt, exp_sub hx, EReal.toReal_coe]

/-- A tame row has positive mass. -/
theorem mass_pos {f : ι → EReal} (hf : Tame f) : 0 < mass f := by
  obtain ⟨h, k, hk⟩ := hf
  refine Finset.sum_pos' (fun j _ => wt_nonneg _) ⟨k, Finset.mem_univ k, ?_⟩
  have := h k
  generalize f k = x at hk this
  induction x with
  | bot => exact absurd rfl hk
  | top => exact absurd rfl this
  | coe r => rw [wt_coe]; exact Real.exp_pos r

/-- The sum of the shifted exponentials of a tame row. -/
theorem sum_exp_sub {f : ι → EReal} (hf : Tame f) (m : ℝ) :
    (∑ k, Ideal.exp (f k - (m : EReal))) = ((mass f * Real.exp (-m) : ℝ) : EReal) := by
  simp only [exp_sub (hf.1 _)]
  rw [coe_sum, mass, Finset.sum_mul]

/-- Its logarithm: the shift comes out of it. -/
theorem log_sum_exp_sub {f : ι → EReal} (hf : Tame f) (m : ℝ) :
    Ideal.log (∑ k, Ideal.exp (f k - (m : EReal))) = ((Real.log (mass f) - m : ℝ) : EReal) := by
  have hp := mass_pos hf
  have he := Real.exp_pos (-m)
  rw [sum_exp_sub hf, log_coe, if_neg (not_le.mpr (mul_pos hp he)), Real.log_mul hp.ne' he.ne', Real.log_exp,
    ← sub_eq_add_neg]

/-- The logarithm of the sum of a tame row's exponentials is that of its mass. -/
theorem log_sum_exp {f : ι → EReal} (hf : Tame f) :
    Ideal.log (∑ k, Ideal.exp (f k)) = ((Real.log (mass f) : ℝ) : EReal) := by
  have := log_sum_exp_sub hf 0
  simpa using this

/-- The greatest entry of a tame row is a real number. -/
theorem top_real {f : ι → EReal} {M : EReal} (h : IsTop f M) (hf : Tame f) : ∃ m : ℝ, M = (m : EReal) := by
  obtain ⟨hle, k, hk⟩ := h
  obtain ⟨j, hj⟩ := hf.2
  induction M with
  | bot => exact absurd (le_bot_iff.mp (hle j)) hj
  | top => exact absurd hk (hf.1 k)
  | coe r => exact ⟨r, rfl⟩

/-- A row that is not tame has greatest entry `⊥` or `⊤`. -/
theorem top_infinite {f : ι → EReal} {M : EReal} (h : IsTop f M) (hf : ¬ Tame f) :
    (M = ⊥ ∧ ∀ k, f k = ⊥) ∨ M = ⊤ := by
  obtain ⟨hle, k, hk⟩ := h
  by_cases ht : ∀ k, f k ≠ ⊤
  · have hb : ∀ j, f j = ⊥ := fun j => by
      by_contra hj
      exact hf ⟨ht, j, hj⟩
    exact .inl ⟨by rw [← hk, hb], hb⟩
  · push Not at ht
    obtain ⟨j, hj⟩ := ht
    exact .inr (top_le_iff.mp (hj ▸ hle j))

/-- In such a row every entry less the greatest one is `⊥`. -/
theorem sub_top_entry {f : ι → EReal} {M : EReal} (h : IsTop f M) (hf : ¬ Tame f) (k : ι) : f k - M = ⊥ := by
  rcases top_infinite h hf with ⟨_, hb⟩ | ht
  · rw [hb, bot_sub']
  · rw [ht, sub_top]

/-- The log-softmax of a row as it is computed: the entry less the greatest, less the logarithm of the sum of
    the exponentials of all such differences. -/
def lsm (f : ι → EReal) (M : EReal) (k : ι) : EReal := (f k - M) - Ideal.log (∑ j, Ideal.exp (f j - M))

/-- Subtracting two real numbers is subtracting their sum. -/
theorem sub_sub_coe (x : EReal) (a b : ℝ) : x - (a : EReal) - (b : EReal) = x - ((a + b : ℝ) : EReal) := by
  induction x with
  | bot => simp only [bot_sub']
  | top => rw [EReal.top_sub_coe, EReal.top_sub_coe, EReal.top_sub_coe]
  | coe r => rw [← EReal.coe_sub, ← EReal.coe_sub, ← EReal.coe_sub, sub_sub]

/-- Of a tame row it is the entry less the logarithm of the row's mass. -/
theorem lsm_tame {f : ι → EReal} {M : EReal} (h : IsTop f M) (hf : Tame f) (k : ι) :
    lsm f M k = f k - ((Real.log (mass f) : ℝ) : EReal) := by
  obtain ⟨m, rfl⟩ := top_real h hf
  rw [lsm, log_sum_exp_sub hf, sub_sub_coe]
  congr 2
  ring

/-- Of any other row it is `⊥`. -/
theorem lsm_not_tame {f : ι → EReal} {M : EReal} (h : IsTop f M) (hf : ¬ Tame f) (k : ι) : lsm f M k = ⊥ := by
  rw [lsm, sub_top_entry h hf, bot_sub']

/-- The row normalised by its log-sum-exp as it is computed, with shift `M` where that is finite and 0 elsewhere. -/
def normed (f : ι → EReal) (M : EReal) (k : ι) : EReal :=
  f k - (Ideal.log (∑ j, Ideal.exp (f j - (if M = ⊤ ∨ M = ⊥ then 0 else M)))
    + (if M = ⊤ ∨ M = ⊥ then 0 else M))

/-- A tame row normalised is the row less the logarithm of its mass. -/
theorem normed_tame {f : ι → EReal} {M : EReal} (h : IsTop f M) (hf : Tame f) (k : ι) :
    normed f M k = f k - ((Real.log (mass f) : ℝ) : EReal) := by
  obtain ⟨m, rfl⟩ := top_real h hf
  rw [normed, if_neg (by simp), log_sum_exp_sub hf, ← EReal.coe_add, sub_add_cancel]

/-- Normalising leaves minus infinity alone. -/
theorem normed_bot {f : ι → EReal} (M : EReal) {k : ι} (h : f k = ⊥) : normed f M k = ⊥ := by
  rw [normed, h, bot_sub']

/-- A row of real numbers is tame. -/
theorem tame_coe [Nonempty ι] (a : ι → ℝ) : Tame fun k => ((a k : ℝ) : EReal) :=
  ⟨fun k => EReal.coe_ne_top _, ⟨Classical.arbitrary ι, EReal.coe_ne_bot _⟩⟩

/-- Adding a real number does not make plus infinity. -/
theorem add_coe_ne_top {x : EReal} {a : ℝ} : x + (a : EReal) ≠ ⊤ ↔ x ≠ ⊤ := by
  induction x with
  | bot => simp
  | top => simp
  | coe r => simp [← EReal.coe_add]

/-- Adding a real number does not make minus infinity. -/
theorem add_coe_ne_bot {x : EReal} {a : ℝ} : x + (a : EReal) ≠ ⊥ ↔ x ≠ ⊥ := by
  induction x with
  | bot => simp
  | top => simp
  | coe r => simp [← EReal.coe_add]

/-- Adding real numbers to a row changes nothing of its being tame. -/
theorem tame_add_coe (f : ι → EReal) (a : ι → ℝ) : (Tame fun k => f k + ((a k : ℝ) : EReal)) ↔ Tame f := by
  simp only [Tame, add_coe_ne_top, add_coe_ne_bot]

/-- Subtracting a real number from a row changes nothing of its being tame. -/
theorem tame_sub_coe (f : ι → EReal) (c : ℝ) : (Tame fun k => f k - (c : EReal)) ↔ Tame f := by
  have := tame_add_coe f fun _ => -c
  simpa only [EReal.coe_neg, ← sub_eq_add_neg] using this

/-- The mass of a row less a real number. -/
theorem mass_sub (f : ι → EReal) (hf : Tame f) (c : ℝ) :
    (mass fun k => f k - (c : EReal)) = mass f * Real.exp (-c) := by
  simp only [mass, wt_sub (hf.1 _), Finset.sum_mul]

/-- Normalising undoes the subtraction of a real number from a row. -/
theorem sub_log_mass_sub {f : ι → EReal} (hf : Tame f) (c : ℝ) (k : ι) :
    f k - (c : EReal) - ((Real.log (mass fun k => f k - (c : EReal)) : ℝ) : EReal)
      = f k - ((Real.log (mass f) : ℝ) : EReal) := by
  rw [mass_sub f hf, Real.log_mul (mass_pos hf).ne' (Real.exp_pos _).ne', Real.log_exp, sub_sub_coe]
  congr 2
  ring

/-- Two differences added are one difference of two sums. -/
theorem sub_add_coe_sub (x : EReal) (a c d : ℝ) :
    (x - (c : EReal)) + ((a : EReal) - (d : EReal)) = (x + (a : EReal)) - ((c + d : ℝ) : EReal) := by
  induction x with
  | bot => simp only [bot_sub', EReal.bot_add]
  | top => rw [EReal.top_sub_coe, ← EReal.coe_sub, EReal.top_add_coe, EReal.top_add_coe, EReal.top_sub_coe]
  | coe r =>
    rw [← EReal.coe_sub, ← EReal.coe_sub, ← EReal.coe_add, ← EReal.coe_add, ← EReal.coe_sub]
    congr 1
    ring

/-- A weight that is not negative times the exponential of a belief over a positive mass. -/
theorem wt_mul_div {x : EReal} (hx : x ≠ ⊤) (b : EReal) {z : ℝ} (hz : 0 < z) (m : ℝ) :
    ((wt x * Real.exp (-m) : ℝ) : EReal) * Ideal.div (Ideal.exp b) ((z * Real.exp (-m) : ℝ) : EReal)
      = Ideal.exp (b + (x - ((Real.log z : ℝ) : EReal))) := by
  have he := Real.exp_pos (-m)
  have hze : 0 < z * Real.exp (-m) := mul_pos hz he
  rw [Ideal.div, if_neg (by exact_mod_cast hze.ne'), ← EReal.coe_inv]
  induction x with
  | bot => rw [wt_bot, zero_mul, EReal.coe_zero, zero_mul, bot_sub', EReal.add_bot, exp_bot]
  | top => exact absurd rfl hx
  | coe r =>
    rw [wt_coe, ← EReal.coe_sub]
    induction b with
    | bot => rw [exp_bot, zero_mul, mul_zero, EReal.bot_add, exp_bot]
    | top =>
      rw [exp_top, EReal.top_mul_coe_of_pos (inv_pos.mpr hze),
        EReal.coe_mul_top_of_pos (mul_pos (Real.exp_pos r) he), EReal.top_add_coe, exp_top]
    | coe b =>
      rw [exp_coe, ← EReal.coe_mul, ← EReal.coe_mul, ← EReal.coe_add, exp_coe]
      congr 1
      rw [Real.exp_add, Real.exp_sub, Real.exp_log hz]
      field_simp

/-- ONE PIXEL. The softmax of the sum of two rows of logits, multiplied by the exponential of a belief `b`, is
    the exponential of `b` plus the normalised sum of the two rows' log-softmaxes; the second row is real. -/
theorem pixel [Nonempty ι] (L : ι → EReal) (a : ι → ℝ) (b ML Ma M m : EReal)
    (hML : IsTop L ML) (hMa : IsTop (fun k => ((a k : ℝ) : EReal)) Ma)
    (hM : IsTop (fun k => L k + ((a k : ℝ) : EReal)) M)
    (hm : IsTop (fun k => lsm L ML k + lsm (fun k => ((a k : ℝ) : EReal)) Ma k) m) (k : ι) :
    Ideal.exp (L k + ((a k : ℝ) : EReal) - M)
        * Ideal.div (Ideal.exp b) (∑ j, Ideal.exp (L j + ((a j : ℝ) : EReal) - M))
      = Ideal.exp (b + normed (fun k => lsm L ML k + lsm (fun k => ((a k : ℝ) : EReal)) Ma k) m k) := by
  by_cases hL : Tame L
  · have hz := (tame_add_coe L a).mpr hL
    have hrow : (fun k => lsm L ML k + lsm (fun k => ((a k : ℝ) : EReal)) Ma k) = fun k => (L k + ((a k : ℝ) : EReal))
        - ((Real.log (mass L) + Real.log (mass fun k => ((a k : ℝ) : EReal)) : ℝ) : EReal) := by
      funext k
      rw [lsm_tame hML hL, lsm_tame hMa (tame_coe a), sub_add_coe_sub]
    rw [hrow] at hm ⊢
    rw [normed_tame hm ((tame_sub_coe _ _).mpr hz), sub_log_mass_sub hz]
    obtain ⟨r, rfl⟩ := top_real hM hz
    rw [sum_exp_sub hz, exp_sub (hz.1 k), wt_mul_div (hz.1 k) b (mass_pos hz)]
  · have hz := mt (tame_add_coe L a).mp hL
    rw [sub_top_entry hM hz k, exp_bot, zero_mul, normed_bot m, EReal.add_bot, exp_bot]
    rw [lsm_not_tame hML hL, EReal.bot_add]

/-- The guarded log-sum-exp of a row as it is computed: shifted by the greatest entry where both it and the entry
    are finite, and with 1 in place of a sum that is not to be used. -/
def glse (r : ι → EReal) (M : EReal) : EReal :=
  M + Ideal.log (if ¬ (M = ⊤ ∨ M = ⊥) ∧
      ¬ ((∑ j, Ideal.exp (r j - (if ¬ (r j = ⊤ ∨ r j = ⊥) ∧ ¬ (M = ⊤ ∨ M = ⊥) then M else 0))) = ⊤
        ∨ (∑ j, Ideal.exp (r j - (if ¬ (r j = ⊤ ∨ r j = ⊥) ∧ ¬ (M = ⊤ ∨ M = ⊥) then M else 0))) = ⊥)
    then ∑ j, Ideal.exp (r j - (if ¬ (r j = ⊤ ∨ r j = ⊥) ∧ ¬ (M = ⊤ ∨ M = ⊥) then M else 0)) else 1)

/-- It is the logarithm of the sum of the exponentials of the row. -/
theorem glse_eq {r : ι → EReal} {M : EReal} (h : IsTop r M) : glse r M = Ideal.log (∑ j, Ideal.exp (r j)) := by
  by_cases hr : Tame r
  · obtain ⟨m, rfl⟩ := top_real h hr
    have hs : ∀ j, Ideal.exp (r j - (if ¬ (r j = ⊤ ∨ r j = ⊥) ∧ ¬ ((m : EReal) = ⊤ ∨ (m : EReal) = ⊥) then (m : EReal) else 0))
        = Ideal.exp (r j - (m : EReal)) := fun j => by
      by_cases hj : r j = ⊥
      · rw [hj, bot_sub', bot_sub']
      · rw [if_pos ⟨not_or.mpr ⟨hr.1 j, hj⟩, by simp⟩]
    rw [glse]
    simp only [hs]
    rw [sum_exp_sub hr, if_pos ⟨by simp, not_or.mpr ⟨EReal.coe_ne_top _, EReal.coe_ne_bot _⟩⟩, ← sum_exp_sub hr,
      log_sum_exp_sub hr, log_sum_exp hr, ← EReal.coe_add, add_sub_cancel]
  · rcases top_infinite h hr with ⟨rfl, hb⟩ | rfl
    · rw [glse, EReal.bot_add]
      simp only [hb, exp_bot, Finset.sum_const_zero, log_zero]
    · rw [glse, if_neg (by simp), log_one, add_zero]
      obtain ⟨k, hk⟩ := h.2
      have : (∑ j, Ideal.exp (r j)) = ⊤ := top_le_iff.mp (by
        have := Finset.single_le_sum (f := fun j => Ideal.exp (r j)) (fun j _ => exp_nonneg _) (Finset.mem_univ k)
        simpa only [hk, exp_top] using this)
      rw [this, log_top]

end Cert.Belief

end
-- ==== Proof.Model.lean ====
/- What one forward step computes, in plain mathematics over the extended reals: the feature maps, the two rows of
   logits of a pixel, the weight a source pixel sends along each of the 25 taps, and the logarithm of what arrives. -/
module

public import proofs.«01_k».proof.Proof.Softmax
public import Idealize.ShloMosaic.Lib.Pointwise

@[expose] public section

noncomputable section

namespace Cert.Belief

open Idealize.ShloMosaic

/-- The pattern of minus infinity. -/
theorem bits_negInf : Ideal.ofBits .f32 0xFF800000#32 = ⊥ := by simp [Ideal.ofBits, Ideal.ieee]

/-- The pattern of plus infinity. -/
theorem bits_posInf : Ideal.ofBits .f32 0x7F800000#32 = ⊤ := by simp [Ideal.ofBits, Ideal.ieee]

/-- The pattern of one. -/
theorem bits_one : Ideal.ofBits .f32 0x3F800000#32 = 1 := by
  simp [Ideal.ofBits, Ideal.ieee]
  rw [← EReal.coe_mul, ← EReal.coe_one]
  norm_num

/-- The integer zero, as a float. -/
theorem float_zero : (FloatOps.sitofp .f32 0#32 : Ideal .f32) = (0 : EReal) := by
  have h : (FloatOps.sitofp .f32 0#32 : Ideal .f32) = (((0#32).toInt : ℝ) : EReal) := rfl
  rw [h]; simp

/-- An extended real is infinite when its absolute value is plus infinity. -/
theorem abs_eq_top {x : EReal} : max x (-x) = ⊤ ↔ x = ⊤ ∨ x = ⊥ := by
  rcases le_total x (-x) with h | h
  · rw [max_eq_right h, EReal.neg_eq_top_iff]
    refine ⟨.inr, ?_⟩
    rintro (rfl | rfl)
    · simp at h
    · rfl
  · rw [max_eq_left h]
    refine ⟨.inl, ?_⟩
    rintro (rfl | rfl)
    · rfl
    · simp at h

/-- The fifteen arguments, as arrays of extended reals. -/
structure Args where
  lb : (⟨4, ![2, 1, 256, 256]⟩ : Shape).Idx → EReal
  sm : (⟨4, ![2, 64, 256, 256]⟩ : Shape).Idx → EReal
  act : (⟨2, ![2, 256]⟩ : Shape).Idx → EReal
  wred : (⟨4, ![64, 64, 1, 1]⟩ : Shape).Idx → EReal
  bred : (⟨1, ![64]⟩ : Shape).Idx → EReal
  wdil : (⟨4, ![64, 64, 3, 3]⟩ : Shape).Idx → EReal
  bdil : (⟨1, ![64]⟩ : Shape).Idx → EReal
  wexp : (⟨4, ![64, 64, 1, 1]⟩ : Shape).Idx → EReal
  bexp : (⟨1, ![64]⟩ : Shape).Idx → EReal
  wk : (⟨4, ![25, 64, 1, 1]⟩ : Shape).Idx → EReal
  bk : (⟨1, ![25]⟩ : Shape).Idx → EReal
  w1 : (⟨2, ![256, 64]⟩ : Shape).Idx → EReal
  b1 : (⟨1, ![64]⟩ : Shape).Idx → EReal
  w2 : (⟨2, ![64, 25]⟩ : Shape).Idx → EReal
  b2 : (⟨1, ![25]⟩ : Shape).Idx → EReal

variable (A : Args)

/-- The first feature map: a 1×1 convolution and a relu. -/
def feat1 (n : Fin 2) (c : Fin 64) (y x : Fin 256) : EReal :=
  max ((∑ d : Fin 64, A.wred (ix4 c d 0 0) * A.sm (ix4 n d y x)) + A.bred (ix1 c)) 0

/-- The first feature map with a border of two zeros on every side. -/
def feat1Pad (n : Fin 2) (c : Fin 64) (Y X : ℕ) : EReal :=
  if h : (2 ≤ Y ∧ Y < 258) ∧ (2 ≤ X ∧ X < 258) then
    feat1 A n c ⟨Y - 2, by omega⟩ ⟨X - 2, by omega⟩ else 0

/-- What the tap `(ky, kx)` of the dilated convolution adds. -/
def dilTap (n : Fin 2) (o : Fin 64) (y x : ℕ) (ky kx : Fin 3) : EReal :=
  ∑ c : Fin 64, A.wdil (ix4 o c ky kx) * feat1Pad A n c (y + 2 * ky) (x + 2 * kx)

/-- The second feature map: a 3×3 convolution of dilation 2 and a relu. -/
def feat2 (n : Fin 2) (o : Fin 64) (y x : Fin 256) : EReal :=
  max ((∑ ky : Fin 3, ∑ kx : Fin 3, dilTap A n o y x ky kx) + A.bdil (ix1 o)) 0

/-- The third feature map: a 1×1 convolution added to the semantic map, and a relu. -/
def feat3 (n : Fin 2) (o : Fin 64) (y x : Fin 256) : EReal :=
  max (A.sm (ix4 n o y x) + ((∑ c : Fin 64, A.wexp (ix4 o c 0 0) * feat2 A n c y x) + A.bexp (ix1 o))) 0

/-- The motion logits of a pixel. -/
def motion (n : Fin 2) (y x : Fin 256) (k : Fin 25) : EReal :=
  (∑ c : Fin 64, A.wk (ix4 k c 0 0) * feat3 A n c y x) + A.bk (ix1 k)

/-- The hid layer of the action branch. -/
def hid (n : Fin 2) (c : Fin 64) : EReal :=
  max ((∑ d : Fin 256, A.w1 (ix2 d c) * A.act (ix2 n d)) + A.b1 (ix1 c)) 0

/-- The action logits. -/
def lang (n : Fin 2) (k : Fin 25) : EReal :=
  (∑ c : Fin 64, A.w2 (ix2 c k) * hid A n c) + A.b2 (ix1 k)

/-- The greatest entry of a row of 25. -/
def top (f : Fin 25 → EReal) : EReal := Finset.univ.fold max ⊥ f

/-- `top f` is the greatest entry of the row `f`. -/
theorem isTop_top (f : Fin 25 → EReal) : IsTop f (top f) := by
  have hle : ∀ k, f k ≤ top f := fun k => (Finset.le_fold_max _).mpr (.inr ⟨k, Finset.mem_univ k, le_rfl⟩)
  refine ⟨hle, ?_⟩
  rcases (Finset.le_fold_max (b := ⊥) (f := f) (s := Finset.univ) (top f)).mp le_rfl with h | ⟨k, _, h⟩
  · exact ⟨0, le_antisymm (hle 0) (le_trans h bot_le)⟩
  · exact ⟨k, le_antisymm (hle k) h⟩

/-- The softmax of a row `z` of logits scaled by the exponential of a belief `b`, as a quotient. -/
def share (z : Fin 25 → EReal) (b : EReal) (k : Fin 25) : EReal :=
  Ideal.exp (z k - top z) * Ideal.div (Ideal.exp b) (∑ j, Ideal.exp (z j - top z))

/-- What the source pixel `(y, x)` sends along tap `k`. -/
def sent (n : Fin 2) (y x : Fin 256) (k : Fin 25) : EReal :=
  share (fun j => motion A n y x j + lang A n j) (A.lb (ix4 n 0 y x)) k

/-- The same with a border of two zeros on every side. -/
def sentPad (n : Fin 2) (k : Fin 25) (Y X : ℕ) : EReal :=
  if h : (2 ≤ Y ∧ Y < 258) ∧ (2 ≤ X ∧ X < 258) then
    sent A n ⟨Y - 2, by omega⟩ ⟨X - 2, by omega⟩ k else 0

/-- The new belief of a pixel: the logarithm of what its 25 sources send. -/
def belief (n : Fin 2) (y x : ℕ) : EReal :=
  Ideal.log (∑ k : Fin 25, sentPad A n k (y + (4 - k.val / 5)) (x + (4 - k.val % 5)))

end Cert.Belief

end
-- ==== Proof.Open.lean ====
/- What one grid point leaves in the scratch and in the output block, as expressions of what it is given. -/
module

public import proofs.«01_k».proof.Proof.Gen.KernelIdeal.Value
public import proofs.«01_k».proof.Proof.Model
public import Idealize.ShloMosaic.Lib.Pipeline.ValueKit
public import Idealize.ShloMosaic.Lib.Pipeline.ReadBack
public import Idealize.ShloMosaic.Lib.Pipeline.ValueKit.Held

@[expose] public section

set_option maxRecDepth 16384

noncomputable section

namespace Cert.KernelIdeal.Read

open Idealize.ShloMosaic Idealize.ShloMosaic.TcCoe Idealize.SL.Sem Cert.KernelIdeal Cert.KernelIdeal.Gen Cert.Belief

variable (m : (ℓ : Loc nD τ sig) → Buf (Elt Ideal) ℓ)

variable (c : Dev nD) (t : Fin cfg0.N)

/-- The shares of the motions on the lanes of a band, from the language scores `s`. -/
def bandShares (s : Vec Ideal S25x1 .f32) : FVec Ideal S25x17408 .f32 :=
  k0_pay9
    (k0_pay7 (k0_pay3 (View.ld (iblk m c 1 t) (Rect.unit (s := S1x64x67584) (k0_off1 (grid0.coords t)) ![1, 64, 18432] (k0_off1_inb (grid0.coords t))))
        (iblk m c 3 t) (iblk m c 4 t))
      k0_pay4 k0_pay5 k0_pay6
      (View.ld (iblk m c 5 t) (Rect.unit (s := S3x64x192) ![0, 0, 0] ![1, 64, 192] inb_S3x64x192_S1x64x192_0_0_0))
      (View.ld (iblk m c 5 t) (Rect.unit (s := S3x64x192) ![1, 0, 0] ![1, 64, 192] inb_S3x64x192_S1x64x192_1_0_0))
      (View.ld (iblk m c 5 t) (Rect.unit (s := S3x64x192) ![2, 0, 0] ![1, 64, 192] inb_S3x64x192_S1x64x192_2_0_0))
      (iblk m c 6 t))
    (k0_pay8 (iblk m c 7 t)) (constant S64x17408 .f32 0x00000000#32) (iblk m c 8 t)
    (View.ld (iblk m c 1 t) (Rect.unit (s := S1x64x67584) (k0_off2 (grid0.coords t)) ![1, 64, 17408] (k0_off2_inb (grid0.coords t))))
    (iblk m c 9 t) (iblk m c 10 t) s
    (View.ld (iblk m c 0 t) (Rect.unit (s := S1x1x66560) (k0_off3 (grid0.coords t)) ![1, 1, 17408] (k0_off3_inb (grid0.coords t))))

/-- What a point of the grid leaves in the output block, from the language scores `s`. -/
def bandOut (s : Vec Ideal S25x1 .f32) : FVec Ideal S1x1x64x256 .f32 :=
  let v0 := Scalar.muli (BitVec.ofNat 32 (grid0.coords t 1).val) 64#32
  let e := bandShares m c t s
  let q := iota .tc S1x17408 32 [1] iota_S1x17408_d1_w32
  let Z := k0_pay10 v0 e q
  k0_pay1 Z (k0_pay16 Z (k0_pay13 Z (k0_pay11 v0 e q) (k0_pay12 v0 e q)) (k0_pay14 Z) k0_pay15) (k0_pay17 Z)

/-- At the first band of an image the kernel keeps the language scores. -/
theorem keep_first (h : t.val % 4 = 0) :
    (outsAt0 m c t.val t.isLt).2 = k0_pay2 (iblk m c 2 t) (iblk m c 11 t) (iblk m c 12 t) (iblk m c 13 t) (iblk m c 14 t) := by
  rw [outsAt0_A m c t h]
  frame_out

/-- At the other bands it leaves them alone. -/
theorem keep_rest (h : ¬ t.val % 4 = 0) :
    (outsAt0 m c t.val t.isLt).2 = (outsAt0 m c (t.val - 1) (Nat.lt_of_le_of_lt (Nat.sub_le _ _) t.isLt)).2 := by
  rw [outsAt0_B m c t h]
  dsimp only
  unfold sout0_B_0
  rfl

/-- Every point's output block comes from the language scores kept there. -/
theorem out_first (h : t.val % 4 = 0) : (outsAt0 m c t.val t.isLt).1 = bandOut m c t (outsAt0 m c t.val t.isLt).2 := by
  rw [keep_first m c t h, outsAt0_A m c t h]
  frame_out
  rfl

/-- The same at the other bands. -/
theorem out_rest (h : ¬ t.val % 4 = 0) : (outsAt0 m c t.val t.isLt).1 = bandOut m c t (outsAt0 m c t.val t.isLt).2 := by
  rw [keep_rest m c t h, outsAt0_B m c t h]
  frame_out
  simp only [read_unread_whole]
  rfl

end Cert.KernelIdeal.Read
end
-- ==== Proof.Words.lean ====
/- The column and the row of a lane, found by the kernel with integer remainders and quotients. -/
module

public import Idealize.ShloMosaic.PureOps.Reduce
public import Idealize.ShloMosaic.Lib.WordCmp
public import Idealize.ShloMosaic.Lib.Routing.Words

/-! The kernel finds the column and the row of a lane with 32-bit words. Here each of those word computations is read as the number it stands for. -/

@[expose] public section

namespace Cert.Belief

open Idealize.ShloMosaic Idealize.ShloMosaic.WordCmp Idealize.ShloMosaic.Routing

/-- The sign repair after a remainder does nothing to a remainder that is not negative. -/
theorem wrap_col : ∀ n : Fin 256,
    Scalar.select
      (IntOp.andi
        (IntOp.xori (IntOp.cmpi CmpIPredicate.slt (BitVec.ofNat 32 n.val) 0#32) (Scalar.cmpi CmpIPredicate.slt 256#32 0#32))
        (IntOp.cmpi CmpIPredicate.ne (BitVec.ofNat 32 n.val) 0#32))
      (IntOp.addi (BitVec.ofNat 32 n.val) 256#32) (BitVec.ofNat 32 n.val) = BitVec.ofNat 32 n.val := by
  decide +kernel

/-- The test that a lane's column is at least 2. -/
theorem col_ge {α : Type} (n : ℕ) (hn : n < 256) (a b : α) :
    Scalar.select (IntOp.cmpi CmpIPredicate.sge (BitVec.ofNat 32 n) 2#32) a b = if 2 ≤ n then a else b := by
  rw [cmpi_sge_ofNat (by omega) (by omega)]
  by_cases h : 2 ≤ n <;> simp [h, Scalar.select]

/-- The test that a lane's column is below 254. -/
theorem col_lt {α : Type} (n : ℕ) (hn : n < 256) (a b : α) :
    Scalar.select (IntOp.cmpi CmpIPredicate.slt (BitVec.ofNat 32 n) 254#32) a b = if n < 254 then a else b := by
  rw [cmpi_slt_ofNat (by omega) (by omega)]
  by_cases h : n < 254 <;> simp [h, Scalar.select]

/-- The floor division of a lane's number by the row length gives its row. -/
theorem row_word (l : ℕ) (hl : l < 17408) :
    Scalar.select
      (IntOp.andi
        (IntOp.cmpi CmpIPredicate.ne
          (IntOp.subi (BitVec.setWidth 32 (IntOp.cmpi CmpIPredicate.sgt (BitVec.ofNat 32 l) 0#32))
            (BitVec.setWidth 32 (IntOp.cmpi CmpIPredicate.slt (BitVec.ofNat 32 l) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 l) 256#32) 0#32))
      (IntOp.subi (IntOp.divsi ArithUnit.vector (BitVec.ofNat 32 l) 256#32) 1#32)
      (IntOp.divsi ArithUnit.vector (BitVec.ofNat 32 l) 256#32) = BitVec.ofNat 32 (l / 256) := by
  rw [remsi_word _ (by omega) (by omega) (by omega), divsi_word _ (by omega) (by omega) (by omega)]
  by_cases h : l = 0
  · subst h
    decide
  · rw [cmpi_sgt_ofNat (by omega) (by omega), cmpi_slt_ofNat (by omega) (by omega)]
    have h1 : decide (0 < l) = true := by simp; omega
    rw [h1, show decide (l < 0) = false by simp]
    generalize hw : BitVec.ofNat 32 (l / 256) = w
    generalize IntOp.cmpi CmpIPredicate.ne (BitVec.ofNat 32 (l % 256)) 0#32 = z
    have hc : IntOp.cmpi CmpIPredicate.ne
          (IntOp.subi (BitVec.setWidth 32 (BitVec.ofBool true)) (BitVec.setWidth 32 (BitVec.ofBool false)))
          (Scalar.subi (Scalar.extui (Scalar.cmpi CmpIPredicate.sgt 256#32 0#32))
            (Scalar.extui (Scalar.cmpi CmpIPredicate.slt 256#32 0#32))) = 0#1 := by decide
    rw [hc]
    have hz : ∀ z : BitVec 1, IntOp.andi 0#1 z = 0#1 := by decide
    rw [hz]
    rfl

/-- The test that a row of the band, shifted back by two, is a row of the image. -/
theorem row_mask : ∀ b : Fin 4, ∀ r : Fin 68,
    IntOp.andi
      (IntOp.cmpi CmpIPredicate.sge (IntOp.addi (BitVec.ofNat 32 r.val) (Scalar.subi (Scalar.muli (BitVec.ofNat 32 b.val) 64#32) 2#32)) 0#32)
      (IntOp.cmpi CmpIPredicate.slt (IntOp.addi (BitVec.ofNat 32 r.val) (Scalar.subi (Scalar.muli (BitVec.ofNat 32 b.val) 64#32) 2#32)) 256#32) =
      BitVec.ofBool (decide (2 ≤ 64 * b.val + r.val ∧ 64 * b.val + r.val < 258)) := by
  decide +kernel

/-- A choice by a truth value held in one bit. -/
theorem select_ofBool {α : Type} (p : Prop) [Decidable p] (a b : α) :
    Scalar.select (BitVec.ofBool (decide p)) a b = if p then a else b := by
  by_cases h : p <;> simp [h, Scalar.select]

end Cert.Belief
end
-- ==== Proof.Pay.lean ====
/- The kernel's stores, read at an index: what each expression of the body is at one lane. -/
module

public import proofs.«01_k».proof.Proof.Gen.KernelIdeal.Value
public import proofs.«01_k».proof.Proof.Model
public import proofs.«01_k».proof.Proof.Words

@[expose] public section

set_option maxRecDepth 16384

noncomputable section

namespace Cert.KernelIdeal.Read

open Idealize.ShloMosaic Idealize.ShloMosaic.TcCoe Idealize.ShloMosaic.Routing Idealize.SL.Sem Cert.KernelIdeal Cert.KernelIdeal.Gen Cert.Belief

/-- The language scores, which the kernel keeps for all bands of an image. -/
theorem pay2_at (a : Vec Ideal S1x1x256 .f32) (w : Vec Ideal S64x256 .bf16) (b : Vec Ideal S64x1 .f32)
    (u : Vec Ideal S25x64 .bf16) (d : Vec Ideal S25x1 .f32) (k : Fin 25) :
    k0_pay2 (F := Ideal) a w b u d (ix2 k 0) =
      (∑ c : Fin 64, u (ix2 k c) * max ((∑ e : Fin 256, w (ix2 c e) * a (ix3 0 0 e)) + b (ix2 c 0)) 0) + d (ix2 k 0) := by
  pointwise [k0_pay2]

/-- The first layer on one lane. -/
theorem pay3_at (x : Vec Ideal S1x64x18432 .bf16) (w : Vec Ideal S64x64 .bf16) (b : Vec Ideal S64x1 .f32)
    (c : Fin 64) (l : Fin 18432) :
    k0_pay3 (F := Ideal) x w b (ix2 c l) =
      max ((∑ d : Fin 64, w (ix2 c d) * x (ix3 0 d l)) + b (ix2 c 0)) 0 := by
  pointwise [k0_pay3]

/-- The column of a lane. -/
theorem pay4_at (l : Fin 18432) : k0_pay4 (ix2 0 l) = BitVec.ofNat 32 (l.val % 256) := by
  pointwise [k0_pay4]
  have hd : Scalar.select (Scalar.cmpi CmpIPredicate.eq 256#32 0#32) 1#32 256#32 = 256#32 := by decide
  rw [hd, remsi_word _ (by omega) (by omega) (by omega)]
  exact wrap_col ⟨l.val % 256, Nat.mod_lt _ (by omega)⟩

/-- A row of the first layer's values with two columns of zeros on either side. -/
def padCol (f : FVec Ideal S64x18432 .bf16) (c : Fin 64) (R X : ℕ) : EReal :=
  if h : (2 ≤ X ∧ X < 258) ∧ R < 72 then f (ix2 c ⟨R * 256 + (X - 2), by omega⟩) else 0

/-- A sum over 192 rows is a sum over three groups of 64. -/
theorem sum_192 (g : Fin 192 → EReal) :
    ∑ q, g q = ∑ j : Fin 3, ∑ c : Fin 64, g ⟨64 * j.val + c.val, by omega⟩ := by
  rw [← Fintype.sum_prod_type', ← (finProdFinEquiv (m := 3) (n := 64)).sum_comp]
  refine Finset.sum_congr rfl fun p _ => congrArg g (Fin.ext ?_)
  simp [finProdFinEquiv]
  omega

/-- One row of taps of the second layer: the three column taps side by side. -/
theorem row_taps (f : FVec Ideal S64x18432 .bf16) (u : Vec Ideal S1x64x192 .bf16) (o : Fin 64) (R : ℕ) (x : Fin 256)
    (L : ℕ) (hR : R < 72) (hL : L = R * 256 + x.val) :
    (∑ q : Fin 192, u (ix3 0 o q) *
      (if h : q.val < 64 then
        Scalar.select (IntOp.cmpi .sge (BitVec.ofNat 32 (L % 256)) 2#32)
          (if h' : L < 2 then 0 else f (ix2 ⟨q.val, h⟩ ⟨L - 2, by omega⟩)) 0
      else if h : q.val - 64 < 64 then f (ix2 ⟨q.val - 64, h⟩ ⟨L, by omega⟩)
      else Scalar.select (IntOp.cmpi .slt (BitVec.ofNat 32 (L % 256)) 254#32)
          (if h' : L < 18430 then f (ix2 ⟨q.val - 64 - 64, by omega⟩ ⟨2 + L, by omega⟩) else 0) 0)) =
      ∑ j : Fin 3, ∑ c : Fin 64, u (ix3 0 o ⟨64 * j.val + c.val, by omega⟩) * padCol f c R (x.val + 2 * j.val) := by
  have hm : L % 256 = x.val := by omega
  rw [sum_192]
  refine Finset.sum_congr rfl fun j _ => Finset.sum_congr rfl fun c _ => congrArg (_ * ·) ?_
  simp only [hm]
  simp only [col_ge _ x.isLt, col_lt _ x.isLt]
  unfold padCol
  have hx := x.isLt
  have hc := c.isLt
  obtain rfl | rfl | rfl : j = 0 ∨ j = 1 ∨ j = 2 := by omega
  all_goals simp only [show (0 : Fin 3).val = 0 from rfl, show (1 : Fin 3).val = 1 from rfl, show (2 : Fin 3).val = 2 from rfl]
  · rw [dif_pos (by omega)]
    split <;> split
    · omega
    · split
      · refine congrArg f (congrArg₂ _ (Fin.ext ?_) (Fin.ext ?_)) <;> simp <;> omega
      · omega
    · omega
    · rfl
  · rw [dif_neg (by omega), dif_pos (by omega), dif_pos (by omega)]
    refine congrArg f (congrArg₂ _ (Fin.ext ?_) (Fin.ext ?_)) <;> simp <;> omega
  · rw [dif_neg (by omega), dif_neg (by omega)]
    split <;> split
    · split
      · refine congrArg f (congrArg₂ _ (Fin.ext ?_) (Fin.ext ?_)) <;> simp <;> omega
      · omega
    · omega
    · omega
    · rfl

/-- The second layer on one lane: nine taps, each over the 64 channels. -/
theorem pay7_at (f : FVec Ideal S64x18432 .bf16) (W : Fin 3 → Vec Ideal S1x64x192 .bf16) (b : Vec Ideal S64x1 .f32)
    (o : Fin 64) (r : Fin 68) (x : Fin 256) :
    k0_pay7 (F := Ideal) f k0_pay4 k0_pay5 k0_pay6 (W 0) (W 1) (W 2) b (ix2 o ⟨r.val * 256 + x.val, by omega⟩) =
      max ((∑ i : Fin 3, ∑ j : Fin 3, ∑ c : Fin 64,
        W i (ix3 0 o ⟨64 * j.val + c.val, by omega⟩) * padCol f c (r.val + 2 * i.val) (x.val + 2 * j.val)) + b (ix2 o 0)) 0 := by
  rw [Fin.sum_univ_three,
    ← row_taps f (W 0) o (r.val + 2 * (0 : Fin 3).val) x _ (by simp; omega) rfl,
    ← row_taps f (W 1) o (r.val + 2 * (1 : Fin 3).val) x _ (by simp; omega) rfl,
    ← row_taps f (W 2) o (r.val + 2 * (2 : Fin 3).val) x _ (by simp; omega) rfl]
  have e0 : (r.val + 2 * (0 : Fin 3).val) * 256 + x.val = r.val * 256 + x.val := by simp
  have e1 : (r.val + 2 * (1 : Fin 3).val) * 256 + x.val = 512 + (r.val * 256 + x.val) := by simp; omega
  have e2 : (r.val + 2 * (2 : Fin 3).val) * 256 + x.val = 1024 + (r.val * 256 + x.val) := by simp; omega
  simp only [e0, e1, e2]
  generalize W 0 = u
  generalize W 1 = v
  generalize W 2 = w
  pointwise [k0_pay7, k0_pay5, k0_pay6, pay4_at]

/-- The share of each motion on one lane. -/
theorem pay9_at (f : FVec Ideal S64x17408 .bf16) (we : Vec Ideal S64x64 .bf16) (be : Vec Ideal S64x1 .f32)
    (s : Vec Ideal S1x64x17408 .bf16) (wk : Vec Ideal S25x64 .bf16) (bk lv : Vec Ideal S25x1 .f32)
    (lb : Vec Ideal S1x1x17408 .f32)
    (k : Fin 25) (l : Fin 17408) :
    k0_pay9 (F := Ideal) f (k0_pay8 we) (constant S64x17408 .f32 0x00000000#32) be s wk bk lv lb (ix2 k l) =
      share (fun j => (∑ c : Fin 64, wk (ix2 j c) *
        max (s (ix3 0 c l) + ((∑ d : Fin 64, we (ix2 c d) * f (ix2 d l)) + be (ix2 c 0))) 0) + bk (ix2 j 0) + lv (ix2 j 0)) (lb (ix3 0 0 l)) k := by
  unfold share top
  pointwise [k0_pay9, k0_pay8]
  simp only [bits_negInf]

/-- The shares with the rows outside the image set to zero. -/
theorem pay10_at (b : ℕ) (hb : b < 4) (e : FVec Ideal S25x17408 .f32) (k : Fin 25) (r : Fin 68) (x : Fin 256) :
    k0_pay10 (F := Ideal) (Scalar.muli (BitVec.ofNat 32 b) 64#32) e (iota .tc S1x17408 32 [1] iota_S1x17408_d1_w32) (ix3 k r x) =
      if 2 ≤ 64 * b + r.val ∧ 64 * b + r.val < 258 then e (ix2 k ⟨r.val * 256 + x.val, by omega⟩) else 0 := by
  rw [← select_ofBool, ← row_mask ⟨b, hb⟩ r]
  have hr : (r.val * 256 + x.val) / 256 = r.val := by omega
  rw [show BitVec.ofNat 32 r.val = BitVec.ofNat 32 ((r.val * 256 + x.val) / 256) by rw [hr], ← row_word _ (by omega)]
  generalize Scalar.muli (BitVec.ofNat 32 b) 64#32 = v0
  pointwise [k0_pay10]

end Cert.KernelIdeal.Read
end
-- ==== Proof.Taps.lean ====
/- The sum of the 25 shifted rows, read at a pixel of the band. -/
module

public import proofs.«01_k».proof.Proof.Gen.KernelIdeal.Value
public import proofs.«01_k».proof.Proof.Model

@[expose] public section

set_option maxRecDepth 16384

noncomputable section

namespace Cert.KernelIdeal.Read

open Idealize.ShloMosaic Idealize.ShloMosaic.TcCoe Idealize.SL.Sem Cert.KernelIdeal Cert.KernelIdeal.Gen Cert.Belief

/-- The five column shifts of a row, with zeros moved in at the ends. -/
def slide (z : Fin 256 → EReal) (j : Fin 5) (x : Fin 256) : EReal :=
  match j with
  | 0 => if h : x.val < 254 then z ⟨2 + x.val, by omega⟩ else 0
  | 1 => if h : x.val < 255 then z ⟨1 + x.val, by omega⟩ else 0
  | 2 => z x
  | 3 => if h : x.val < 1 then 0 else z ⟨x.val - 1, by omega⟩
  | 4 => if h : x.val < 2 then 0 else z ⟨x.val - 2, by omega⟩

/-- The kernel's last step: 25 shifted planes added up, then the logarithm. -/
theorem taps_at (v0 : BitVec 32) (e : FVec Ideal S25x17408 .f32) (q) (Z : FVec Ideal S25x68x256 .f32)
    (hZ : k0_pay10 v0 e q = Z) (r : Fin 64) (x : Fin 256) :
    k0_pay1 (F := Ideal) Z (k0_pay16 Z (k0_pay13 Z (k0_pay11 v0 e q) (k0_pay12 v0 e q)) (k0_pay14 Z) k0_pay15) (k0_pay17 Z) (ix4 0 0 r x) =
      Ideal.log (∑ i : Fin 5, ∑ j : Fin 5,
        slide (fun x' => Z (ix3 ⟨5 * i.val + j.val, by omega⟩ ⟨4 - i.val + r.val, by omega⟩ x')) j x) := by
  unfold k0_pay11 k0_pay12
  rw [hZ]
  simp only [Fin.sum_univ_five, slide]
  pointwise [k0_pay1, k0_pay16, k0_pay13, k0_pay14, k0_pay15, k0_pay17]
  simp only [← add_assoc]

end Cert.KernelIdeal.Read
end
-- ==== Proof.Host.lean ====
/- The operations before the kernel call: what each array handed to the kernel is, in terms of the arguments. -/
module

public import proofs.«01_k».proof.Proof.Gen.KernelIdeal.Value
public import proofs.«01_k».proof.Proof.Model
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Read

open Idealize.ShloMosaic Idealize.ShloMosaic.TcCoe Idealize.SL.Sem Cert.KernelIdeal Cert.KernelIdeal.Gen Cert.Belief

variable (m : (ℓ : Loc nD τ sig) → Buf (Elt Ideal) ℓ)

/-- The kernel program's arguments. -/
def kargs (c : Dev nD) : Args where
  lb := m ((c : Thread nD τ).loc main_arg0)
  sm := m ((c : Thread nD τ).loc main_arg1)
  act := m ((c : Thread nD τ).loc main_arg2)
  wred := m ((c : Thread nD τ).loc main_arg3)
  bred := m ((c : Thread nD τ).loc main_arg4)
  wdil := m ((c : Thread nD τ).loc main_arg5)
  bdil := m ((c : Thread nD τ).loc main_arg6)
  wexp := m ((c : Thread nD τ).loc main_arg7)
  bexp := m ((c : Thread nD τ).loc main_arg8)
  wk := m ((c : Thread nD τ).loc main_arg9)
  bk := m ((c : Thread nD τ).loc main_arg10)
  w1 := m ((c : Thread nD τ).loc main_arg11)
  b1 := m ((c : Thread nD τ).loc main_arg12)
  w2 := m ((c : Thread nD τ).loc main_arg13)
  b2 := m ((c : Thread nD τ).loc main_arg14)

/-- The program's operations before the kernel call, as one list. -/
theorem V_eq (c : Dev nD) (b : Ref sig .tc) : V m c b = StableHlo.after (hostOps0 ++ (hostOps0_1 ++ (hostOps0_2 ++ (hostOps0_3 ++ hostOps0_4)))) (fun b => m (c, b)) b := by
  simp only [V, List.flatten_cons, List.flatten_nil, List.append_nil]

/-- The kernel is handed the log belief with two rows of zeros above and below. -/
theorem V_v4 (c : Dev nD) : @Eq (FVec Ideal S2x1x66560 .f32) (V m c main_v4)
    (shapeCast S2x1x66560 (pad (α := EReal) S2x1x260x256 ![0, 0, 2, 0] ![0, 0, 2, 0] ![0, 0, 0, 0] (kargs m c).lb (sitofp (F := Ideal) FTy.f32 (constantI S_ 32 0#32)) pads_S2x1x256x256_S2x1x260x256_000_000_220_000 h_S_) shapeCasts_S2x1x260x256_S2x1x66560) := by
  rw [V_eq]
  simp only [hostOps0, hostOps0_1, hostOps0_2, hostOps0_3, hostOps0_4, List.cons_append, List.nil_append]
  after_results
  rfl

/-- The kernel is handed the map with four rows of zeros above and below. -/
theorem V_v2 (c : Dev nD) : @Eq (FVec Ideal S2x64x67584 .bf16) (V m c main_v2)
    (shapeCast S2x64x67584 (truncf (F := Ideal) (φ := .f32) FTy.bf16 (pad (α := EReal) S2x64x264x256 ![0, 0, 4, 0] ![0, 0, 4, 0] ![0, 0, 0, 0] (kargs m c).sm (sitofp (F := Ideal) FTy.f32 (constantI S_ 32 0#32)) pads_S2x64x256x256_S2x64x264x256_000_000_440_000 h_S_) bitsLt_bf16_f32) shapeCasts_S2x64x264x256_S2x64x67584) := by
  rw [V_eq]
  simp only [hostOps0, hostOps0_1, hostOps0_2, hostOps0_3, hostOps0_4, List.cons_append, List.nil_append]
  after_results
  rfl

/-- The kernel is handed the actions. -/
theorem V_v18 (c : Dev nD) : @Eq (FVec Ideal S2x1x256 .f32) (V m c main_v18)
    (shapeCast S2x1x256 (kargs m c).act shapeCasts_S2x256_S2x1x256) := by
  rw [V_eq]
  simp only [hostOps0, hostOps0_1, hostOps0_2, hostOps0_3, hostOps0_4, List.cons_append, List.nil_append]
  after_results
  rfl

/-- The kernel is handed the first layer's weights. -/
theorem V_v6 (c : Dev nD) : @Eq (FVec Ideal S64x64 .bf16) (V m c main_v6)
    (truncf (F := Ideal) (φ := .f32) FTy.bf16 (shapeCast S64x64 (kargs m c).wred shapeCasts_S64x64x1x1_S64x64) bitsLt_bf16_f32) := by
  rw [V_eq]
  simp only [hostOps0, hostOps0_1, hostOps0_2, hostOps0_3, hostOps0_4, List.cons_append, List.nil_append]
  after_results
  rfl

/-- The kernel is handed the second layer's weights, one slab for each row of taps. -/
theorem V_v9 (c : Dev nD) : @Eq (FVec Ideal S3x64x192 .bf16) (V m c main_v9)
    (truncf (F := Ideal) (φ := .f32) FTy.bf16 (shapeCast S3x64x192 (transpose S3x64x3x64 [2, 0, 3, 1] (kargs m c).wdil transposes_S64x64x3x3_S3x64x3x64_2_0_3_1) shapeCasts_S3x64x3x64_S3x64x192) bitsLt_bf16_f32) := by
  rw [V_eq]
  simp only [hostOps0, hostOps0_1, hostOps0_2, hostOps0_3, hostOps0_4, List.cons_append, List.nil_append]
  after_results
  rfl

/-- The kernel is handed the third layer's weights. -/
theorem V_v11 (c : Dev nD) : @Eq (FVec Ideal S64x64 .bf16) (V m c main_v11)
    (truncf (F := Ideal) (φ := .f32) FTy.bf16 (shapeCast S64x64 (kargs m c).wexp shapeCasts_S64x64x1x1_S64x64) bitsLt_bf16_f32) := by
  rw [V_eq]
  simp only [hostOps0, hostOps0_1, hostOps0_2, hostOps0_3, hostOps0_4, List.cons_append, List.nil_append]
  after_results
  rfl

/-- The kernel is handed the motion weights. -/
theorem V_v13 (c : Dev nD) : @Eq (FVec Ideal S25x64 .bf16) (V m c main_v13)
    (truncf (F := Ideal) (φ := .f32) FTy.bf16 (shapeCast S25x64 (kargs m c).wk shapeCasts_S25x64x1x1_S25x64) bitsLt_bf16_f32) := by
  rw [V_eq]
  simp only [hostOps0, hostOps0_1, hostOps0_2, hostOps0_3, hostOps0_4, List.cons_append, List.nil_append]
  after_results
  rfl

/-- The kernel is handed the action network's first weights. -/
theorem V_v15 (c : Dev nD) : @Eq (FVec Ideal S64x256 .bf16) (V m c main_v15)
    (truncf (F := Ideal) (φ := .f32) FTy.bf16 (transpose S64x256 [1, 0] (kargs m c).w1 transposes_S256x64_S64x256_1_0) bitsLt_bf16_f32) := by
  rw [V_eq]
  simp only [hostOps0, hostOps0_1, hostOps0_2, hostOps0_3, hostOps0_4, List.cons_append, List.nil_append]
  after_results
  rfl

/-- The kernel is handed the action network's second weights. -/
theorem V_v17 (c : Dev nD) : @Eq (FVec Ideal S25x64 .bf16) (V m c main_v17)
    (truncf (F := Ideal) (φ := .f32) FTy.bf16 (transpose S25x64 [1, 0] (kargs m c).w2 transposes_S64x25_S25x64_1_0) bitsLt_bf16_f32) := by
  rw [V_eq]
  simp only [hostOps0, hostOps0_1, hostOps0_2, hostOps0_3, hostOps0_4, List.cons_append, List.nil_append]
  after_results
  rfl

/-- The kernel is handed the first bias as a column. -/
theorem V_v19 (c : Dev nD) : @Eq (FVec Ideal S64x1 .f32) (V m c main_v19)
    (shapeCast S64x1 (kargs m c).bred shapeCasts_S64_S64x1) := by
  rw [V_eq]
  simp only [hostOps0, hostOps0_1, hostOps0_2, hostOps0_3, hostOps0_4, List.cons_append, List.nil_append]
  after_results
  rfl

/-- The kernel is handed the second bias as a column. -/
theorem V_v20 (c : Dev nD) : @Eq (FVec Ideal S64x1 .f32) (V m c main_v20)
    (shapeCast S64x1 (kargs m c).bdil shapeCasts_S64_S64x1) := by
  rw [V_eq]
  simp only [hostOps0, hostOps0_1, hostOps0_2, hostOps0_3, hostOps0_4, List.cons_append, List.nil_append]
  after_results
  rfl

/-- The kernel is handed the third bias as a column. -/
theorem V_v21 (c : Dev nD) : @Eq (FVec Ideal S64x1 .f32) (V m c main_v21)
    (shapeCast S64x1 (kargs m c).bexp shapeCasts_S64_S64x1) := by
  rw [V_eq]
  simp only [hostOps0, hostOps0_1, hostOps0_2, hostOps0_3, hostOps0_4, List.cons_append, List.nil_append]
  after_results
  rfl

/-- The kernel is handed the motion bias as a column. -/
theorem V_v22 (c : Dev nD) : @Eq (FVec Ideal S25x1 .f32) (V m c main_v22)
    (shapeCast S25x1 (kargs m c).bk shapeCasts_S25_S25x1) := by
  rw [V_eq]
  simp only [hostOps0, hostOps0_1, hostOps0_2, hostOps0_3, hostOps0_4, List.cons_append, List.nil_append]
  after_results
  rfl

/-- The kernel is handed the action network's first bias as a column. -/
theorem V_v23 (c : Dev nD) : @Eq (FVec Ideal S64x1 .f32) (V m c main_v23)
    (shapeCast S64x1 (kargs m c).b1 shapeCasts_S64_S64x1) := by
  rw [V_eq]
  simp only [hostOps0, hostOps0_1, hostOps0_2, hostOps0_3, hostOps0_4, List.cons_append, List.nil_append]
  after_results
  rfl

/-- The kernel is handed the action network's second bias as a column. -/
theorem V_v24 (c : Dev nD) : @Eq (FVec Ideal S25x1 .f32) (V m c main_v24)
    (shapeCast S25x1 (kargs m c).b2 shapeCasts_S25_S25x1) := by
  rw [V_eq]
  simp only [hostOps0, hostOps0_1, hostOps0_2, hostOps0_3, hostOps0_4, List.cons_append, List.nil_append]
  after_results
  rfl

end Cert.KernelIdeal.Read
end
-- ==== Proof.Lanes.lean ====
/- Which block every point of the grid is given, and where its dynamic slices start. -/
module

public import proofs.«01_k».proof.Proof.Gen.KernelIdeal.Value
public import proofs.«01_k».proof.Proof.Host
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Read

open Idealize.ShloMosaic Idealize.ShloMosaic.TcCoe Idealize.SL.Sem Cert.KernelIdeal Cert.KernelIdeal.Gen Cert.Belief

variable (m : (ℓ : Loc nD τ sig) → Buf (Elt Ideal) ℓ)

/-- Where the windows lie at each point of the grid. -/
theorem idx : ∀ t : Fin cfg0.N,
    win0_0.index t = ![t.val / 4, 0, 0] ∧ win0_1.index t = ![t.val / 4, 0, 0] ∧ win0_2.index t = ![t.val / 4, 0, 0] ∧
    win0_3.index t = ![0, 0] ∧ win0_4.index t = ![0, 0] ∧ win0_5.index t = ![0, 0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![0, 0] ∧ win0_14.index t = ![0, 0] ∧
    win0_15.index t = ![t.val / 4, 0, t.val % 4, 0] :=
  (by decide +kernel : ∀ t : Fin grid0.N, _)

/-- Where the kernel's three loads of a band start, and which band it is. -/
theorem off : ∀ t : Fin cfg0.N,
    k0_off1 (grid0.coords t) = ![0, 0, 64 * (t.val % 4) * 256] ∧ k0_off2 (grid0.coords t) = ![0, 0, (64 * (t.val % 4) + 2) * 256] ∧
    k0_off3 (grid0.coords t) = ![0, 0, 64 * (t.val % 4) * 256] ∧ (grid0.coords t 1).val = t.val % 4 :=
  (by decide +kernel : ∀ t : Fin grid0.N, _)

/-- The padded map, one lane. -/
theorem sm_lane (a : Vec Ideal S2x64x256x256 .f32) (n : Fin 2) (o : Fin 64) (Y : ℕ) (hY : Y < 264) (x : Fin 256) :
    (shapeCast S2x64x67584 (truncf (F := Ideal) (φ := .f32) FTy.bf16 (pad (α := EReal) S2x64x264x256 ![0, 0, 4, 0] ![0, 0, 4, 0] ![0, 0, 0, 0] a (sitofp (F := Ideal) FTy.f32 (constantI S_ 32 0#32)) pads_S2x64x256x256_S2x64x264x256_000_000_440_000 h_S_) bitsLt_bf16_f32) shapeCasts_S2x64x264x256_S2x64x67584)
      (ix3 n o ⟨Y * 256 + x.val, by omega⟩) =
    if h : 4 ≤ Y ∧ Y < 260 then a (ix4 n o ⟨Y - 4, by omega⟩ x) else 0 := by
  pointwise
  have h1 : (Y * 256 + x.val) / 256 = Y := by omega
  simp only [h1, float_zero]
  split <;> split
  · rfl
  · omega
  · omega
  · rfl

/-- The padded log belief, one lane. -/
theorem lb_lane (a : Vec Ideal S2x1x256x256 .f32) (n : Fin 2) (Y : ℕ) (hY : Y < 260) (x : Fin 256) :
    (shapeCast S2x1x66560 (pad (α := EReal) S2x1x260x256 ![0, 0, 2, 0] ![0, 0, 2, 0] ![0, 0, 0, 0] a (sitofp (F := Ideal) FTy.f32 (constantI S_ 32 0#32)) pads_S2x1x256x256_S2x1x260x256_000_000_220_000 h_S_) shapeCasts_S2x1x260x256_S2x1x66560)
      (ix3 n 0 ⟨Y * 256 + x.val, by omega⟩) =
    if h : 2 ≤ Y ∧ Y < 258 then a (ix4 n 0 ⟨Y - 2, by omega⟩ x) else 0 := by
  pointwise
  have h1 : (Y * 256 + x.val) / 256 = Y := by omega
  simp only [h1, float_zero]
  split <;> split
  · rfl
  · omega
  · omega
  · rfl

/-- The second layer's weights, one entry. -/
theorem wdil_lane (a : Vec Ideal S64x64x3x3 .f32) (i : Fin 3) (o : Fin 64) (j : Fin 3) (c : Fin 64) :
    (truncf (F := Ideal) (φ := .f32) FTy.bf16 (shapeCast S3x64x192 (transpose S3x64x3x64 [2, 0, 3, 1] a transposes_S64x64x3x3_S3x64x3x64_2_0_3_1) shapeCasts_S3x64x3x64_S3x64x192) bitsLt_bf16_f32)
      (ix3 i o ⟨64 * j.val + c.val, by omega⟩) = a (ix4 o c i j) := by
  pointwise

/-- A 1×1 weight of 64 by 64, one entry. -/
theorem wred_lane (a : Vec Ideal S64x64x1x1 .f32) (o c : Fin 64) :
    (truncf (F := Ideal) (φ := .f32) FTy.bf16 (shapeCast S64x64 a shapeCasts_S64x64x1x1_S64x64) bitsLt_bf16_f32) (ix2 o c) = a (ix4 o c 0 0) := by
  pointwise

/-- The motion weights, one entry. -/
theorem wk_lane (a : Vec Ideal S25x64x1x1 .f32) (o : Fin 25) (c : Fin 64) :
    (truncf (F := Ideal) (φ := .f32) FTy.bf16 (shapeCast S25x64 a shapeCasts_S25x64x1x1_S25x64) bitsLt_bf16_f32) (ix2 o c) = a (ix4 o c 0 0) := by
  pointwise

/-- The action network's first weights, one entry. -/
theorem w1_lane (a : Vec Ideal S256x64 .f32) (o : Fin 64) (c : Fin 256) :
    (truncf (F := Ideal) (φ := .f32) FTy.bf16 (transpose S64x256 [1, 0] a transposes_S256x64_S64x256_1_0) bitsLt_bf16_f32) (ix2 o c) = a (ix2 c o) := by
  pointwise

/-- The action network's second weights, one entry. -/
theorem w2_lane (a : Vec Ideal S64x25 .f32) (o : Fin 25) (c : Fin 64) :
    (truncf (F := Ideal) (φ := .f32) FTy.bf16 (transpose S25x64 [1, 0] a transposes_S64x25_S25x64_1_0) bitsLt_bf16_f32) (ix2 o c) = a (ix2 c o) := by
  pointwise

/-- A bias of 64 entries as a column. -/
theorem col64 (a : Vec Ideal S64 .f32) (o : Fin 64) : shapeCast S64x1 a shapeCasts_S64_S64x1 (ix2 o 0) = a (ix1 o) := by
  pointwise

/-- A bias of 25 entries as a column. -/
theorem col25 (a : Vec Ideal S25 .f32) (o : Fin 25) : shapeCast S25x1 a shapeCasts_S25_S25x1 (ix2 o 0) = a (ix1 o) := by
  pointwise

/-- The actions, one entry. -/
theorem act_lane (a : Vec Ideal S2x256 .f32) (n : Fin 2) (e : Fin 256) : shapeCast S2x1x256 a shapeCasts_S2x256_S2x1x256 (ix3 n 0 e) = a (ix2 n e) := by
  pointwise

end Cert.KernelIdeal.Read
end
-- ==== Proof.Blocks.lean ====
/- What the blocks of a grid point hold, entry by entry, in terms of the arguments. -/
module

public import proofs.«01_k».proof.Proof.Gen.KernelIdeal.Value
public import proofs.«01_k».proof.Proof.Lanes
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Read

open Idealize.ShloMosaic Idealize.ShloMosaic.TcCoe Idealize.SL.Sem Cert.KernelIdeal Cert.KernelIdeal.Gen Cert.Belief

variable (m : (ℓ : Loc nD τ sig) → Buf (Elt Ideal) ℓ)

variable (c : Dev nD) (t : Fin cfg0.N)

/-- Window 3 holds its whole array at every point. -/
theorem whole3 : iblk m c 3 t = V m c main_v6 := by
  blk_ext! [iblk, idx t]

/-- Window 4 holds its whole array at every point. -/
theorem whole4 : iblk m c 4 t = V m c main_v19 := by
  blk_ext! [iblk, idx t]

/-- Window 5 holds its whole array at every point. -/
theorem whole5 : iblk m c 5 t = V m c main_v9 := by
  blk_ext! [iblk, idx t]

/-- Window 6 holds its whole array at every point. -/
theorem whole6 : iblk m c 6 t = V m c main_v20 := by
  blk_ext! [iblk, idx t]

/-- Window 7 holds its whole array at every point. -/
theorem whole7 : iblk m c 7 t = V m c main_v11 := by
  blk_ext! [iblk, idx t]

/-- Window 8 holds its whole array at every point. -/
theorem whole8 : iblk m c 8 t = V m c main_v21 := by
  blk_ext! [iblk, idx t]

/-- Window 9 holds its whole array at every point. -/
theorem whole9 : iblk m c 9 t = V m c main_v13 := by
  blk_ext! [iblk, idx t]

/-- Window 10 holds its whole array at every point. -/
theorem whole10 : iblk m c 10 t = V m c main_v22 := by
  blk_ext! [iblk, idx t]

/-- Window 11 holds its whole array at every point. -/
theorem whole11 : iblk m c 11 t = V m c main_v15 := by
  blk_ext! [iblk, idx t]

/-- Window 12 holds its whole array at every point. -/
theorem whole12 : iblk m c 12 t = V m c main_v23 := by
  blk_ext! [iblk, idx t]

/-- Window 13 holds its whole array at every point. -/
theorem whole13 : iblk m c 13 t = V m c main_v17 := by
  blk_ext! [iblk, idx t]

/-- Window 14 holds its whole array at every point. -/
theorem whole14 : iblk m c 14 t = V m c main_v24 := by
  blk_ext! [iblk, idx t]

/-- Window 3, one entry. -/
theorem blk3 (o d : Fin 64) : iblk m c 3 t (ix2 o d) = (kargs m c).wred (ix4 o d 0 0) := by
  rw [whole3]
  exact (congrFun (V_v6 m c) _).trans (wred_lane _ o d)

/-- Window 4, one entry. -/
theorem blk4 (o : Fin 64) : iblk m c 4 t (ix2 o 0) = (kargs m c).bred (ix1 o) := by
  rw [whole4]
  exact (congrFun (V_v19 m c) _).trans (col64 _ o)

/-- Window 6, one entry. -/
theorem blk6 (o : Fin 64) : iblk m c 6 t (ix2 o 0) = (kargs m c).bdil (ix1 o) := by
  rw [whole6]
  exact (congrFun (V_v20 m c) _).trans (col64 _ o)

/-- Window 7, one entry. -/
theorem blk7 (o d : Fin 64) : iblk m c 7 t (ix2 o d) = (kargs m c).wexp (ix4 o d 0 0) := by
  rw [whole7]
  exact (congrFun (V_v11 m c) _).trans (wred_lane _ o d)

/-- Window 8, one entry. -/
theorem blk8 (o : Fin 64) : iblk m c 8 t (ix2 o 0) = (kargs m c).bexp (ix1 o) := by
  rw [whole8]
  exact (congrFun (V_v21 m c) _).trans (col64 _ o)

/-- Window 9, one entry. -/
theorem blk9 (k : Fin 25) (d : Fin 64) : iblk m c 9 t (ix2 k d) = (kargs m c).wk (ix4 k d 0 0) := by
  rw [whole9]
  exact (congrFun (V_v13 m c) _).trans (wk_lane _ k d)

/-- Window 10, one entry. -/
theorem blk10 (k : Fin 25) : iblk m c 10 t (ix2 k 0) = (kargs m c).bk (ix1 k) := by
  rw [whole10]
  exact (congrFun (V_v22 m c) _).trans (col25 _ k)

/-- Window 11, one entry. -/
theorem blk11 (o : Fin 64) (e : Fin 256) : iblk m c 11 t (ix2 o e) = (kargs m c).w1 (ix2 e o) := by
  rw [whole11]
  exact (congrFun (V_v15 m c) _).trans (w1_lane _ o e)

/-- Window 12, one entry. -/
theorem blk12 (o : Fin 64) : iblk m c 12 t (ix2 o 0) = (kargs m c).b1 (ix1 o) := by
  rw [whole12]
  exact (congrFun (V_v23 m c) _).trans (col64 _ o)

/-- Window 13, one entry. -/
theorem blk13 (k : Fin 25) (d : Fin 64) : iblk m c 13 t (ix2 k d) = (kargs m c).w2 (ix2 d k) := by
  rw [whole13]
  exact (congrFun (V_v17 m c) _).trans (w2_lane _ k d)

/-- Window 14, one entry. -/
theorem blk14 (k : Fin 25) : iblk m c 14 t (ix2 k 0) = (kargs m c).b2 (ix1 k) := by
  rw [whole14]
  exact (congrFun (V_v24 m c) _).trans (col25 _ k)

/-- Window 5, one entry of one slab, through the kernel's load of that slab. -/
theorem ld5 (i : Fin 3) (off : Fin 3 → ℕ) (hoff : off = ![i.val, 0, 0]) (inb) (o : Fin 64) (j : Fin 3) (d : Fin 64) :
    View.ld (iblk m c 5 t) (Rect.unit (s := S3x64x192) off ![1, 64, 192] inb) (ix3 0 o ⟨64 * j.val + d.val, by omega⟩) =
      (kargs m c).wdil (ix4 o d i j) := by
  subst hoff
  rw [whole5]
  refine (View.ld_unit_apply_of _ _ _ _ _ (ix3 i o ⟨64 * j.val + d.val, by omega⟩) ?_).trans
    ((congrFun (V_v9 m c) _).trans (wdil_lane _ i o j d))
  intro a
  fin_cases a <;> simp

/-- Window 2, one entry. -/
theorem blk2 (n : Fin 2) (hn : n.val = t.val / 4) (e : Fin 256) : iblk m c 2 t (ix3 0 0 e) = (kargs m c).act (ix2 n e) := by
  refine Eq.trans (b := V m c main_v18 (ix3 n 0 e)) ?_ ((congrFun (V_v18 m c) _).trans (act_lane _ n e))
  blk_ext [iblk, idx t]

/-- Reading window 1's block of any array is reading the array where the block lies. -/
theorem read1 (X : Vec Ideal S2x64x67584 .bf16) (y : ((cfg0.win 1).xblock (cfg0.grid.coords t)).Idx) :
    ((cfg0.win 1).blk t).view.read (Elt Ideal) X y = X ((win0_1.rect t).emb y) := rfl

/-- Where an entry of window 1's block lies in its array. -/
theorem place1 (n : Fin 2) (hn : n.val = t.val / 4) (d : Fin 64) (l : Fin 67584) (y : (win0_1.xblock (grid0.coords t)).Idx)
    (h0 : (y 0).val = 0) (h1 : (y 1).val = d.val) (h2 : (y 2).val = l.val) :
    (win0_1.rect t).emb y = ix3 n d l := by
  have hi := (idx t).2.1
  refine funext fun a => Fin.ext ?_
  refine (Pipeline.Window.rect_emb_val win0_1 t y a).trans ?_
  rw [hi]
  fin_cases a
  · show t.val / 4 * 1 + (y 0).val = n.val
    omega
  · show 0 * 64 + (y 1).val = d.val
    omega
  · show 0 * 67584 + (y 2).val = l.val
    omega

/-- Window 1 holds one image of the padded map. -/
theorem blk1 (n : Fin 2) (hn : n.val = t.val / 4) (d : Fin 64) (l : Fin 67584) :
    iblk m c 1 t (ix3 0 d l) = V m c main_v2 (ix3 n d l) := by
  unfold iblk
  exact (read1 t (V m c main_v2) _).trans (congrArg _ (place1 t n hn d l _ rfl rfl rfl))

/-- Reading window 0's block of any array is reading the array where the block lies. -/
theorem read0 (X : Vec Ideal S2x1x66560 .f32) (y : ((cfg0.win 0).xblock (cfg0.grid.coords t)).Idx) :
    ((cfg0.win 0).blk t).view.read (Elt Ideal) X y = X ((win0_0.rect t).emb y) := rfl

/-- Where an entry of window 0's block lies in its array. -/
theorem place0 (n : Fin 2) (hn : n.val = t.val / 4) (l : Fin 66560) (y : (win0_0.xblock (grid0.coords t)).Idx)
    (h0 : (y 0).val = 0) (h1 : (y 1).val = 0) (h2 : (y 2).val = l.val) :
    (win0_0.rect t).emb y = ix3 n 0 l := by
  have hi := (idx t).1
  refine funext fun a => Fin.ext ?_
  refine (Pipeline.Window.rect_emb_val win0_0 t y a).trans ?_
  rw [hi]
  fin_cases a
  · show t.val / 4 * 1 + (y 0).val = n.val
    omega
  · show 0 * 1 + (y 1).val = 0
    omega
  · show 0 * 66560 + (y 2).val = l.val
    omega

/-- Window 0 holds one image of the padded log belief. -/
theorem blk0 (n : Fin 2) (hn : n.val = t.val / 4) (l : Fin 66560) :
    iblk m c 0 t (ix3 0 0 l) = V m c main_v4 (ix3 n 0 l) := by
  unfold iblk
  exact (read0 t (V m c main_v4) _).trans (congrArg _ (place0 t n hn l _ rfl rfl rfl))

/-- A load of whole rows of the map, one lane. -/
theorem ld_sm (n : Fin 2) (hn : n.val = t.val / 4) (off : Fin 3 → ℕ) (B L : ℕ) (hoff : off = ![0, 0, B * 256]) (inb)
    (d : Fin 64) (Y r : ℕ) (x : Fin 256) (hY : Y < 264) (hl : r * 256 + x.val < L) (hr : B + r = Y) :
    View.ld (iblk m c 1 t) (Rect.unit (s := S1x64x67584) off ![1, 64, L] inb) (ix3 0 d ⟨r * 256 + x.val, hl⟩) =
      if h : 4 ≤ Y ∧ Y < 260 then (kargs m c).sm (ix4 n d ⟨Y - 4, by omega⟩ x) else 0 := by
  have e : V m c main_v2 (ix3 n d ⟨Y * 256 + x.val, by omega⟩) = _ :=
    (congrFun (V_v2 m c) _).trans (sm_lane _ n d Y hY x)
  rw [← e, ← blk1 m c t n hn]
  refine View.ld_unit_apply_of _ _ _ _ _ _ ?_
  subst hoff
  intro a
  fin_cases a
  · rfl
  · exact (Nat.zero_add _).symm
  · show Y * 256 + x.val = B * 256 + (r * 256 + x.val)
    omega

/-- A load of whole rows of the log belief, one lane. -/
theorem ld_lb (n : Fin 2) (hn : n.val = t.val / 4) (off : Fin 3 → ℕ) (B L : ℕ) (hoff : off = ![0, 0, B * 256]) (inb)
    (Y r : ℕ) (x : Fin 256) (hY : Y < 260) (hl : r * 256 + x.val < L) (hr : B + r = Y) :
    View.ld (iblk m c 0 t) (Rect.unit (s := S1x1x66560) off ![1, 1, L] inb) (ix3 0 0 ⟨r * 256 + x.val, hl⟩) =
      if h : 2 ≤ Y ∧ Y < 258 then (kargs m c).lb (ix4 n 0 ⟨Y - 2, by omega⟩ x) else 0 := by
  have e : V m c main_v4 (ix3 n 0 ⟨Y * 256 + x.val, by omega⟩) = _ :=
    (congrFun (V_v4 m c) _).trans (lb_lane _ n Y hY x)
  rw [← e, ← blk0 m c t n hn]
  refine View.ld_unit_apply_of _ _ _ _ _ _ ?_
  subst hoff
  intro a
  fin_cases a
  · rfl
  · rfl
  · show Y * 256 + x.val = B * 256 + (r * 256 + x.val)
    omega

end Cert.KernelIdeal.Read
end
-- ==== Proof.Band.lean ====
/- One band of 64 rows: the shares computed over its lanes are the shares of the plain mathematics, and their shifted sums the new belief. -/
module

public import proofs.«01_k».proof.Proof.Open
public import proofs.«01_k».proof.Proof.Pay
public import proofs.«01_k».proof.Proof.Taps
public import proofs.«01_k».proof.Proof.Blocks

@[expose] public section

set_option maxRecDepth 16384

noncomputable section

namespace Cert.KernelIdeal.Read

open Idealize.ShloMosaic Idealize.ShloMosaic.TcCoe Idealize.SL.Sem Cert.KernelIdeal Cert.KernelIdeal.Gen Cert.Belief

/-- Padding the first layer's values by columns gives the first feature map with its border, when the rows outside the image are zero. -/
theorem padCol_eq (A : Args) (n : Fin 2) (b : ℕ) (F : FVec Ideal S64x18432 .bf16)
    (hF : ∀ (d : Fin 64) (R : ℕ) (hR : R < 72) (x : Fin 256), F (ix2 d ⟨R * 256 + x.val, by omega⟩) =
      if h : 4 ≤ 64 * b + R ∧ 64 * b + R < 260 then feat1 A n d ⟨64 * b + R - 4, by omega⟩ x else 0)
    (d : Fin 64) (R X : ℕ) (hR : R < 72) (y : ℕ) (hy : y + 2 = 64 * b + R) :
    padCol F d R X = feat1Pad A n d y X := by
  unfold padCol feat1Pad
  by_cases hX : 2 ≤ X ∧ X < 258
  · have e := hF d R hR ⟨X - 2, by omega⟩
    split
    · refine e.trans ?_
      split <;> split
      · congr 2
        omega
      · omega
      · omega
      · rfl
    · omega
  · split
    · omega
    · split
      · omega
      · rfl

/-- A sum over the 25 taps, row by row. -/
theorem sum_25 (g : Fin 25 → EReal) : ∑ k, g k = ∑ i : Fin 5, ∑ j : Fin 5, g ⟨5 * i.val + j.val, by omega⟩ := by
  rw [← Fintype.sum_prod_type', ← (finProdFinEquiv (m := 5) (n := 5)).sum_comp]
  refine Finset.sum_congr rfl fun p _ => congrArg g (Fin.ext ?_)
  simp [finProdFinEquiv]
  omega

/-- A shifted row of shares is what the taps read, when the rows outside the image are zero. -/
theorem slide_eq (A : Args) (n : Fin 2) (b : ℕ) (k : Fin 25) (z : Fin 256 → EReal) (Y : ℕ)
    (hz : ∀ x, z x = if h : 2 ≤ Y ∧ Y < 258 then sent A n ⟨Y - 2, by omega⟩ x k else 0)
    (j : Fin 5) (x : Fin 256) : slide z j x = sentPad A n k Y (x.val + (4 - j.val)) := by
  unfold sentPad
  by_cases hY : 2 ≤ Y ∧ Y < 258
  · have hz' : ∀ x, z x = sent A n ⟨Y - 2, by omega⟩ x k := fun x => by rw [hz, dif_pos hY]
    obtain rfl | rfl | rfl | rfl | rfl : j = 0 ∨ j = 1 ∨ j = 2 ∨ j = 3 ∨ j = 4 := by omega
    all_goals simp only [slide, hz', show (0 : Fin 5).val = 0 from rfl, show (1 : Fin 5).val = 1 from rfl, show (2 : Fin 5).val = 2 from rfl,
      show (3 : Fin 5).val = 3 from rfl, show (4 : Fin 5).val = 4 from rfl]
    · split <;> split
      · congr 2; omega
      · omega
      · omega
      · rfl
    · split <;> split
      · congr 2; omega
      · omega
      · omega
      · rfl
    · split
      · congr 2
      · omega
    · split <;> split
      · omega
      · rfl
      · congr 2
      · omega
    · split <;> split
      · omega
      · rfl
      · congr 2
      · omega
  · have hz' : ∀ x, z x = 0 := fun x => by rw [hz, dif_neg hY]
    have e : slide z j x = 0 := by
      unfold slide
      split <;> simp [hz']
    rw [e]
    split
    · omega
    · rfl

/-- The first layer on a lane: the first feature map inside the image, zero outside, the bias there being at most zero. -/
theorem layer1 (A : Args) (hb : ∀ o, A.bred (ix1 o) ≤ 0) (n : Fin 2) (b : ℕ) (X : Vec Ideal S1x64x18432 .bf16) (w : Vec Ideal S64x64 .bf16)
    (u : Vec Ideal S64x1 .f32)
    (hX : ∀ (q : Fin 64) (R : ℕ) (hR : R < 72) (x : Fin 256), X (ix3 0 q ⟨R * 256 + x.val, by omega⟩) =
      if h : 4 ≤ 64 * b + R ∧ 64 * b + R < 260 then A.sm (ix4 n q ⟨64 * b + R - 4, by omega⟩ x) else 0)
    (hw : ∀ o q, w (ix2 o q) = A.wred (ix4 o q 0 0)) (hu : ∀ o, u (ix2 o 0) = A.bred (ix1 o))
    (d : Fin 64) (R : ℕ) (hR : R < 72) (x : Fin 256) :
    k0_pay3 (F := Ideal) X w u (ix2 d ⟨R * 256 + x.val, by omega⟩) =
      if h : 4 ≤ 64 * b + R ∧ 64 * b + R < 260 then feat1 A n d ⟨64 * b + R - 4, by omega⟩ x else 0 := by
  rw [pay3_at, hu]
  simp only [hX _ R hR x, hw]
  split
  · rfl
  · rw [Finset.sum_eq_zero (fun q _ => mul_zero _), zero_add]
    exact max_eq_right (hb d)

/-- The second layer on a lane whose row lies in the image. -/
theorem layer2 (A : Args) (n : Fin 2) (b : ℕ) (F : FVec Ideal S64x18432 .bf16) (W : Fin 3 → Vec Ideal S1x64x192 .bf16) (u : Vec Ideal S64x1 .f32)
    (hF : ∀ (d : Fin 64) (R : ℕ) (hR : R < 72) (x : Fin 256), F (ix2 d ⟨R * 256 + x.val, by omega⟩) =
      if h : 4 ≤ 64 * b + R ∧ 64 * b + R < 260 then feat1 A n d ⟨64 * b + R - 4, by omega⟩ x else 0)
    (hW : ∀ (i : Fin 3) (o : Fin 64) (j : Fin 3) (d : Fin 64), W i (ix3 0 o ⟨64 * j.val + d.val, by omega⟩) = A.wdil (ix4 o d i j))
    (hu : ∀ o, u (ix2 o 0) = A.bdil (ix1 o))
    (o : Fin 64) (r : Fin 68) (x y : Fin 256) (hy : y.val + 2 = 64 * b + r.val) :
    k0_pay7 (F := Ideal) F k0_pay4 k0_pay5 k0_pay6 (W 0) (W 1) (W 2) u (ix2 o ⟨r.val * 256 + x.val, by omega⟩) = feat2 A n o y x := by
  rw [pay7_at, hu]
  unfold feat2 dilTap
  congr 2
  refine Finset.sum_congr rfl fun i _ => Finset.sum_congr rfl fun j _ => Finset.sum_congr rfl fun d _ => ?_
  rw [hW]
  exact congrArg (_ * ·) (padCol_eq A n b F hF d _ _ (by omega) _ (by omega))

/-- The shares on a lane, from the values that the lane's operands have. -/
theorem share_lane (A : Args) (n : Fin 2) (f : FVec Ideal S64x17408 .bf16) (we : Vec Ideal S64x64 .bf16) (be : Vec Ideal S64x1 .f32)
    (sm : Vec Ideal S1x64x17408 .bf16) (wk : Vec Ideal S25x64 .bf16) (bk lv : Vec Ideal S25x1 .f32) (lb : Vec Ideal S1x1x17408 .f32)
    (k : Fin 25) (l : Fin 17408) (x y : Fin 256)
    (hf : ∀ d, f (ix2 d l) = feat2 A n d y x) (hwe : ∀ o d, we (ix2 o d) = A.wexp (ix4 o d 0 0)) (hbe : ∀ o, be (ix2 o 0) = A.bexp (ix1 o))
    (hsm : ∀ q, sm (ix3 0 q l) = A.sm (ix4 n q y x)) (hwk : ∀ j q, wk (ix2 j q) = A.wk (ix4 j q 0 0)) (hbk : ∀ j, bk (ix2 j 0) = A.bk (ix1 j))
    (hlv : ∀ j, lv (ix2 j 0) = lang A n j) (hlb : lb (ix3 0 0 l) = A.lb (ix4 n 0 y x)) :
    k0_pay9 (F := Ideal) f (k0_pay8 we) (constant S64x17408 .f32 0x00000000#32) be sm wk bk lv lb (ix2 k l) = sent A n y x k := by
  rw [pay9_at]
  simp only [hf, hwe, hbe, hsm, hwk, hbk, hlv, hlb]
  rfl

variable (m : (ℓ : Loc nD τ sig) → Buf (Elt Ideal) ℓ) (c : Dev nD) (t : Fin cfg0.N)

/-- The slabs of the second layer's weights, one for each row of taps. -/
def slab : Fin 3 → Vec Ideal S1x64x192 .bf16 :=
  ![View.ld (iblk m c 5 t) (Rect.unit (s := S3x64x192) ![0, 0, 0] ![1, 64, 192] inb_S3x64x192_S1x64x192_0_0_0),
    View.ld (iblk m c 5 t) (Rect.unit (s := S3x64x192) ![1, 0, 0] ![1, 64, 192] inb_S3x64x192_S1x64x192_1_0_0),
    View.ld (iblk m c 5 t) (Rect.unit (s := S3x64x192) ![2, 0, 0] ![1, 64, 192] inb_S3x64x192_S1x64x192_2_0_0)]

/-- An entry of a slab. -/
theorem slab_at (i : Fin 3) (o : Fin 64) (j : Fin 3) (d : Fin 64) :
    slab m c t i (ix3 0 o ⟨64 * j.val + d.val, by omega⟩) = (kargs m c).wdil (ix4 o d i j) := by
  obtain rfl | rfl | rfl : i = 0 ∨ i = 1 ∨ i = 2 := by omega
  · exact ld5 m c t 0 _ rfl _ o j d
  · exact ld5 m c t 1 _ rfl _ o j d
  · exact ld5 m c t 2 _ rfl _ o j d

/-- The shares on a lane whose row lies in the image. -/
theorem shares_at (hb : ∀ o, (kargs m c).bred (ix1 o) ≤ 0) (n : Fin 2) (hn : n.val = t.val / 4) (s : Vec Ideal S25x1 .f32)
    (hs : ∀ k, s (ix2 k 0) = lang (kargs m c) n k) (k : Fin 25) (r : Fin 68) (x : Fin 256)
    (y : Fin 256) (hy : y.val + 2 = 64 * (t.val % 4) + r.val) :
    bandShares m c t s (ix2 k ⟨r.val * 256 + x.val, by omega⟩) = sent (kargs m c) n y x k := by
  refine share_lane (kargs m c) n _ _ _ _ _ _ _ _ k _ x y (fun d => ?_) (blk7 m c t) (blk8 m c t) (fun q => ?_) (blk9 m c t) (blk10 m c t) hs ?_
  · exact layer2 (kargs m c) n (t.val % 4) _ (slab m c t) _
      (layer1 (kargs m c) hb n (t.val % 4) _ _ _
        (fun q R hR x => ld_sm m c t n hn _ (64 * (t.val % 4)) 18432 (off t).1 _ q (64 * (t.val % 4) + R) R x (by omega) (by omega) rfl)
        (blk3 m c t) (blk4 m c t))
      (slab_at m c t) (blk6 m c t) d r x y hy
  · refine (ld_sm m c t n hn _ (64 * (t.val % 4) + 2) 17408 (off t).2.1 _ q (64 * (t.val % 4) + 2 + r.val) r.val x (by omega) (by omega) rfl).trans ?_
    have e : 64 * (t.val % 4) + 2 + r.val - 4 = y.val := by omega
    rw [dif_pos (by omega)]
    simp only [e]
  · refine (ld_lb m c t n hn _ (64 * (t.val % 4)) 17408 (off t).2.2.1 _ (64 * (t.val % 4) + r.val) r.val x (by omega) (by omega) rfl).trans ?_
    have e : 64 * (t.val % 4) + r.val - 2 = y.val := by omega
    rw [dif_pos (by omega)]
    simp only [e]

/-- What a point of the grid leaves in the output block: the new belief of the band's pixels. -/
theorem band_at (hb : ∀ o, (kargs m c).bred (ix1 o) ≤ 0) (n : Fin 2) (hn : n.val = t.val / 4) (s : Vec Ideal S25x1 .f32)
    (hs : ∀ k, s (ix2 k 0) = lang (kargs m c) n k) (r : Fin 64) (x : Fin 256) :
    bandOut m c t s (ix4 0 0 r x) = belief (kargs m c) n (64 * (t.val % 4) + r.val) x := by
  have ht : t.val % 4 < 4 := Nat.mod_lt _ (by omega)
  unfold bandOut
  rw [(off t).2.2.2]
  refine (taps_at _ _ _ _ rfl r x).trans ?_
  unfold belief
  rw [sum_25]
  refine congrArg _ (Finset.sum_congr rfl fun i _ => Finset.sum_congr rfl fun j _ => ?_)
  have h1 : (5 * i.val + j.val) / 5 = i.val := by omega
  have h2 : (5 * i.val + j.val) % 5 = j.val := by omega
  simp only [h1, h2]
  refine slide_eq (kargs m c) n (t.val % 4) _ _ _ (fun x' => ?_) j x
  refine (pay10_at (t.val % 4) ht _ _ ⟨4 - i.val + r.val, by omega⟩ x').trans ?_
  split <;> split
  · exact shares_at m c t hb n hn s hs _ ⟨4 - i.val + r.val, by omega⟩ x' _ (by simp; omega)
  · simp at *; omega
  · simp at *; omega
  · rfl

end Cert.KernelIdeal.Read
end
-- ==== Proof.Final.lean ====
/- The whole result of the kernel: the scores kept from point to point, the block every point leaves, and the array
   the blocks make up. -/
module

public import proofs.«01_k».proof.Proof.Band

@[expose] public section

set_option maxRecDepth 16384

noncomputable section

namespace Cert.KernelIdeal.Read

open Idealize.ShloMosaic Idealize.ShloMosaic.TcCoe Idealize.SL.Sem Cert.KernelIdeal Cert.KernelIdeal.Gen Cert.Belief

variable (m : (ℓ : Loc nD τ sig) → Buf (Elt Ideal) ℓ) (c : Dev nD)

/-- The image that a point of the grid belongs to. -/
def image (t : Fin cfg0.N) : Fin 2 := ⟨t.val / 4, by have := lt_of_lt_of_eq t.isLt (show cfg0.N = 8 from N_0); omega⟩

/-- The action branch as the kernel computes it. -/
theorem scores_at (A : Args) (n : Fin 2) (a : Vec Ideal S1x1x256 .f32) (w : Vec Ideal S64x256 .bf16) (b : Vec Ideal S64x1 .f32)
    (u : Vec Ideal S25x64 .bf16) (d : Vec Ideal S25x1 .f32)
    (ha : ∀ e, a (ix3 0 0 e) = A.act (ix2 n e)) (hw : ∀ o e, w (ix2 o e) = A.w1 (ix2 e o)) (hb : ∀ o, b (ix2 o 0) = A.b1 (ix1 o))
    (hu : ∀ k q, u (ix2 k q) = A.w2 (ix2 q k)) (hd : ∀ k, d (ix2 k 0) = A.b2 (ix1 k)) (k : Fin 25) :
    k0_pay2 (F := Ideal) a w b u d (ix2 k 0) = lang A n k := by
  rw [pay2_at]
  simp only [ha, hw, hb, hu, hd]
  rfl

/-- The kept scores at every point of the grid are those of the point's image. -/
theorem kept (t : Fin cfg0.N) (k : Fin 25) : (outsAt0 m c t.val t.isLt).2 (ix2 k 0) = lang (kargs m c) (image t) k := by
  have main : ∀ (j : ℕ) (t : Fin cfg0.N), t.val % 4 = j → (outsAt0 m c t.val t.isLt).2 (ix2 k 0) = lang (kargs m c) (image t) k := by
    intro j
    induction j with
    | zero =>
      intro t ht
      rw [keep_first m c t ht]
      exact scores_at (kargs m c) (image t) _ _ _ _ _ (blk2 m c t (image t) rfl) (blk11 m c t) (blk12 m c t) (blk13 m c t) (blk14 m c t) k
    | succ j ih =>
      intro t ht
      rw [keep_rest m c t (by omega)]
      refine (ih ⟨t.val - 1, by omega⟩ (by show (t.val - 1) % 4 = j; omega)).trans ?_
      refine congrArg (fun n => lang (kargs m c) n k) (Fin.ext ?_)
      show (t.val - 1) / 4 = t.val / 4
      omega
  exact main _ t rfl

/-- What every point of the grid leaves in the output block. -/
theorem left_at (hb : ∀ o, (kargs m c).bred (ix1 o) ≤ 0) (t : Fin cfg0.N) (r : Fin 64) (x : Fin 256) :
    (outsAt0 m c t.val t.isLt).1 (ix4 0 0 r x) = belief (kargs m c) (image t) (64 * (t.val % 4) + r.val) x := by
  have e : (outsAt0 m c t.val t.isLt).1 = bandOut m c t (outsAt0 m c t.val t.isLt).2 := by
    by_cases h : t.val % 4 = 0
    · exact out_first m c t h
    · exact out_rest m c t h
  rw [e]
  exact band_at m c t hb (image t) rfl _ (kept m c t) r x

/-- The new belief of every pixel, as one array. -/
def beliefs (A : Args) : (⟨4, ![2, 1, 256, 256]⟩ : Shape).Idx → EReal := fun i => belief A (i 0) (i 2).val (i 3).val

/-- Where the block that a point of the grid writes back lies: which image, and which band of rows. -/
theorem outIdx (t : Fin cfg0.N) : win0_15.index t (0 : Fin 4) = t.val / 4 ∧ win0_15.index t (1 : Fin 4) = 0
    ∧ win0_15.index t (2 : Fin 4) = t.val % 4 ∧ win0_15.index t (3 : Fin 4) = 0 ∧ t.val < 8 :=
  (by decide +kernel : ∀ t : Fin grid0.N, win0_15.index t (0 : Fin 4) = t.val / 4 ∧ win0_15.index t (1 : Fin 4) = 0
    ∧ win0_15.index t (2 : Fin 4) = t.val % 4 ∧ win0_15.index t (3 : Fin 4) = 0 ∧ t.val < 8) t

/-- The kernel's result is the new belief of every pixel. -/
theorem final (hb : ∀ o, (kargs m c).bred (ix1 o) ≤ 0) : (dats m 0 c).arrAt 15 cfg0.N = beliefs (kargs m c) := by
  refine (dats m 0 c).arrAt_eq_of_covers 15 (beliefs (kargs m c)) (by decide +kernel) fun t hf y => ?_
  show (dats m 0 c).after 15 t ((cfg0.win 15).xinj (grid0.coords t) y) = _
  rw [after0_15]
  obtain ⟨e0, e1, e2, e3, e4⟩ := outIdx t
  have hy0 : (y 0).val < 1 := (y 0).isLt
  have hy1 : (y 1).val < 1 := (y 1).isLt
  have hy2 : (y 2).val < 64 := (y 2).isLt
  have hy3 : (y 3).val < 256 := (y 3).isLt
  have hl : (cfg0.win 15).xinj (grid0.coords t) y = (ix4 0 0 ⟨(y 2).val, hy2⟩ ⟨(y 3).val, hy3⟩ : S1x1x64x256.Idx) := by
    funext a; apply Fin.ext
    match a with
    | ⟨0, _⟩ => show (y 0).val = 0; omega
    | ⟨1, _⟩ => show (y 1).val = 0; omega
    | ⟨2, _⟩ => rfl
    | ⟨3, _⟩ => rfl
  rw [hl, left_at m c hb t ⟨(y 2).val, hy2⟩ ⟨(y 3).val, hy3⟩]
  have hb0 : (((cfg0.win 15).blk t).view.emb y 0).val = win0_15.index t (0 : Fin 4) * 1 + 1 * (y 0).val := rfl
  have hb2 : (((cfg0.win 15).blk t).view.emb y 2).val = win0_15.index t (2 : Fin 4) * 64 + 1 * (y 2).val := rfl
  have hb3 : (((cfg0.win 15).blk t).view.emb y 3).val = win0_15.index t (3 : Fin 4) * 256 + 1 * (y 3).val := rfl
  show belief (kargs m c) (image t) (64 * (t.val % 4) + (y 2).val) (y 3).val
    = belief (kargs m c) (((cfg0.win 15).blk t).view.emb y 0) (((cfg0.win 15).blk t).view.emb y 2).val (((cfg0.win 15).blk t).view.emb y 3).val
  rw [hb2, hb3, show (((cfg0.win 15).blk t).view.emb y 0) = image t from Fin.ext (by rw [hb0, e0]; show t.val / 4 * 1 + 1 * (y 0).val = t.val / 4; omega), e2, e3]
  congr 1 <;> omega

end Cert.KernelIdeal.Read
end
-- ==== Proof.RefA.lean ====
/- The reference, read from its first operation to its motion logits: each array is what the plain mathematics says. -/
module

public import proofs.«01_k».proof.Proof.Gen.ReferenceIdeal.Run
public import proofs.«01_k».proof.Proof.Model
public import Idealize.ShloMosaic.Lib.Tactic.CleanTypes

@[expose] public section

set_option maxRecDepth 16384

noncomputable section

namespace Cert.ReferenceIdeal.Read

open Idealize.ShloMosaic Cert.ReferenceIdeal Cert.ReferenceIdeal.Value Cert.Belief

variable (V0 : Valuation τ sig (Elt Ideal))

/-- The reference's arguments. -/
def args : Args where
  lb := V0 (Proc.devRef .tc main_arg0)
  sm := V0 (Proc.devRef .tc main_arg1)
  act := V0 (Proc.devRef .tc main_arg2)
  wred := V0 (Proc.devRef .tc main_arg3)
  bred := V0 (Proc.devRef .tc main_arg4)
  wdil := V0 (Proc.devRef .tc main_arg5)
  bdil := V0 (Proc.devRef .tc main_arg6)
  wexp := V0 (Proc.devRef .tc main_arg7)
  bexp := V0 (Proc.devRef .tc main_arg8)
  wk := V0 (Proc.devRef .tc main_arg9)
  bk := V0 (Proc.devRef .tc main_arg10)
  w1 := V0 (Proc.devRef .tc main_arg11)
  b1 := V0 (Proc.devRef .tc main_arg12)
  w2 := V0 (Proc.devRef .tc main_arg13)
  b2 := V0 (Proc.devRef .tc main_arg14)

/-- The reference's first feature map, with its border of zeros. -/
theorem r7 (n : Fin 2) (c : Fin 64) (Y X : Fin 260) :
    res_main_v7 (F := Ideal) V0 (ix4 n c Y X) = feat1Pad (args V0) n c Y X := by
  unfold res_main_v7 feat1Pad feat1
  clean_types
  pointwise
  rw [float_zero]
  split <;> split
  · dsimp only [args]
    congr 2
    exact Finset.sum_congr rfl fun _ _ => mul_comm _ _
  · omega
  · omega
  · with_reducible rfl

/-- A tap of the dilated convolution may be read at any coordinates equal to its own, with the factors in either order. -/
theorem tap_comm (A : Args) (n : Fin 2) (o : Fin 64) (y x : ℕ) (ky kx : Fin 3) (Y X : ℕ)
    (hY : Y = y + 2 * ky) (hX : X = x + 2 * kx) :
    ∑ c : Fin 64, feat1Pad A n c Y X * A.wdil (ix4 o c ky kx) = dilTap A n o y x ky kx := by
  subst hY hX
  exact Finset.sum_congr rfl fun _ _ => mul_comm _ _

/-- The reference's nine taps and the bias: what the dilated convolution adds up to. -/
theorem r63 (n : Fin 2) (c : Fin 64) (y x : Fin 256) :
    res_main_v63 (F := Ideal) V0 (ix4 n c y x) =
      (∑ ky : Fin 3, ∑ kx : Fin 3, dilTap (args V0) n c y x ky kx) + (args V0).bdil (ix1 c) := by
  unfold res_main_v63
  clean_types
  pointwise [r7]
  have t := tap_comm (args V0) n c y x
  dsimp only [args] at t ⊢
  rw [t 0 0 _ _ (by simp) (by simp), t 0 1 _ _ (by simp) (by simp; omega), t 0 2 _ _ (by simp) (by simp; omega),
    t 1 0 _ _ (by simp; omega) (by simp), t 1 1 _ _ (by simp; omega) (by simp; omega),
    t 1 2 _ _ (by simp; omega) (by simp; omega), t 2 0 _ _ (by simp; omega) (by simp),
    t 2 1 _ _ (by simp; omega) (by simp; omega), t 2 2 _ _ (by simp; omega) (by simp; omega)]
  simp only [Fin.sum_univ_three]
  abel

/-- The reference's motion logits. -/
theorem r78 (n : Fin 2) (k : Fin 25) (y x : Fin 256) :
    res_main_v78 (F := Ideal) V0 (ix4 n k y x) = motion (args V0) n y x k := by
  unfold res_main_v78 motion feat3 feat2
  clean_types
  pointwise [r63]
  dsimp only [args]
  congr 1
  refine Finset.sum_congr rfl fun c _ => ?_
  refine (mul_comm _ _).trans ?_
  congr 4
  refine Finset.sum_congr rfl fun d _ => ?_
  exact mul_comm _ _

end Cert.ReferenceIdeal.Read
end
-- ==== Proof.RefB.lean ====
/- The reference, read on: the two log-softmaxes, their sum normalised, the belief added, and the border put around it. -/
module

public import proofs.«01_k».proof.Proof.Gen.ReferenceIdeal.Run
public import proofs.«01_k».proof.Proof.RefA
public import Idealize.ShloMosaic.Lib.Tactic.CleanTypes

@[expose] public section

set_option maxRecDepth 16384

noncomputable section

namespace Cert.ReferenceIdeal.Read

open Idealize.ShloMosaic Cert.ReferenceIdeal Cert.ReferenceIdeal.Value Cert.Belief

variable (V0 : Valuation τ sig (Elt Ideal))

open Cert.ReferenceIdeal.Gen

/-- The greater of minus infinity and an array is the array. -/
theorem max_bot (Y : FVec Ideal S2x256x256 .f32) :
    maximumf (broadcastInDim S2x256x256 ![] bcast_S_S2x256x256 (constant (F := Ideal) S_ .f32 0xFF800000#32)) Y = Y := by
  funext i
  pointwise
  rw [bits_negInf]
  exact max_eq_right bot_le

/-- Subtracting from every tap one value per pixel. -/
theorem sub_bc (X : FVec Ideal S2x25x256x256 .f32) (Y : FVec Ideal S2x256x256 .f32) (n : Fin 2) (k : Fin 25)
    (y x : Fin 256) :
    subf X (broadcastInDim S2x25x256x256 ![0, 1, 2, 3] bcast_S2x1x256x256_S2x25x256x256_0_1_2_3
      (broadcastInDim S2x1x256x256 ![0, 2, 3] bcast_S2x256x256_S2x1x256x256_0_2_3 Y)) (ix4 n k y x)
      = X (ix4 n k y x) - Y (ix3 n y x) := by
  pointwise

/-- The reduction by maximum over the taps, at a pixel, is the greatest entry of the row. -/
theorem red_top (X : FVec Ideal S2x25x256x256 .f32) (n : Fin 2) (y x : Fin 256) :
    Host.reduce FloatOps.maximumf X (constant S_ .f32 0xFF800000#32) reducesTo_S2x25x256x256_S2x256x256_d1 h_S_
      (ix3 n y x) = top fun j => X (ix4 n j y x) := by
  pointwise
  unfold top
  rw [bits_negInf]

/-- The motion logits less the greatest of their row. -/
theorem rc4 (n : Fin 2) (k : Fin 25) (y x : Fin 256) :
    res_main_call4_v5 (F := Ideal) V0 (ix4 n k y x) =
      motion (args V0) n y x k - top (motion (args V0) n y x) := by
  unfold res_main_call4_v5
  rw [max_bot]
  refine (sub_bc _ _ n k y x).trans ?_
  rw [red_top]
  simp only [r78]

/-- The reference's action logits. -/
theorem r88 (n : Fin 2) (k : Fin 25) :
    res_main_v88 (F := Ideal) V0 (ix2 n k) = lang (args V0) n k := by
  unfold res_main_v88 lang hid
  clean_types
  pointwise
  dsimp only [args]
  congr 1
  refine Finset.sum_congr rfl fun c _ => ?_
  refine (mul_comm _ _).trans ?_
  congr 3
  refine Finset.sum_congr rfl fun d _ => ?_
  exact mul_comm _ _

/-- The action logits less the greatest of their row. -/
theorem rc6 (n : Fin 2) (k : Fin 25) :
    res_main_call6_v5 (F := Ideal) V0 (ix2 n k) =
      lang (args V0) n k - top (lang (args V0) n) := by
  unfold res_main_call6_v5 top
  clean_types
  pointwise [r88]
  rw [bits_negInf, max_eq_right bot_le]

/-- The sum of the two log-softmaxes. -/
def logk (A : Args) (n : Fin 2) (y x : Fin 256) (k : Fin 25) : EReal :=
  lsm (motion A n y x) (top (motion A n y x)) k + lsm (lang A n) (top (lang A n)) k

/-- The reference's sum of the two log-softmaxes. -/
theorem r92 (n : Fin 2) (k : Fin 25) (y x : Fin 256) :
    res_main_v92 (F := Ideal) V0 (ix4 n k y x) = logk (args V0) n y x k := by
  unfold res_main_v92 logk lsm
  clean_types
  pointwise [rc4, rc6]

/-- The greatest entry of that sum at a pixel. -/
theorem r94 (n : Fin 2) (y x : Fin 256) :
    res_main_v94 (F := Ideal) V0 (ix4 n 0 y x) = top (logk (args V0) n y x) := by
  unfold res_main_v94 top
  clean_types
  pointwise [r92]
  rw [bits_negInf]

/-- The guard against infinities: zero in place of an infinite entry. -/
theorem guard (X : FVec Ideal S2x1x256x256 .f32) (n : Fin 2) (y x : Fin 256) :
    (select (cmpf .oeq (Host.absf X) (broadcastInDim S2x1x256x256 ![] bcast_S_S2x1x256x256 (constant S_ .f32 0x7F800000#32))) (broadcastInDim S2x1x256x256 ![] bcast_S_S2x1x256x256 (id (constant S_ .f32 0x00000000#32))) X : FVec Ideal S2x1x256x256 .f32) (ix4 n 0 y x) =
      if X (ix4 n 0 y x) = ⊤ ∨ X (ix4 n 0 y x) = ⊥ then 0 else X (ix4 n 0 y x) := by
  simp only [id]
  pointwise
  generalize X (ix4 n 0 y x) = M
  rw [bits_posInf]
  refine if_congr abs_eq_top rfl rfl

/-- The shift the reference uses in its log-sum-exp: the greatest entry where that is finite, zero elsewhere. -/
theorem r96 (n : Fin 2) (y x : Fin 256) :
    res_main_v96 (F := Ideal) V0 (ix4 n 0 y x) =
      if top (logk (args V0) n y x) = ⊤ ∨ top (logk (args V0) n y x) = ⊥ then 0
        else top (logk (args V0) n y x) := by
  unfold res_main_v96
  refine (guard _ n y x).trans ?_
  simp only [r94]

/-- Normalising a row, adding the belief and surrounding the result by two rows and columns of minus infinity, at an index. -/
theorem norm_pad (L : FVec Ideal S2x25x256x256 .f32) (B Z : FVec Ideal S2x1x256x256 .f32)
    (n : Fin 2) (k : Fin 25) (Y X : Fin 260) :
    (pad S2x25x260x260 ![0, 0, 2, 2] ![0, 0, 2, 2] ![0, 0, 0, 0] (addf (broadcastInDim S2x25x256x256 ![0, 1, 2, 3] bcast_S2x1x256x256_S2x25x256x256_0_1_2_3 B) (subf L (broadcastInDim S2x25x256x256 ![0, 1, 2, 3] bcast_S2x1x256x256_S2x25x256x256_0_1_2_3 (addf (Host.log (broadcastInDim S2x1x256x256 ![0, 2, 3] bcast_S2x256x256_S2x1x256x256_0_2_3 (Host.reduceAdd (Host.exp (subf L (broadcastInDim S2x25x256x256 ![0, 1, 2, 3] bcast_S2x1x256x256_S2x25x256x256_0_1_2_3 Z))) (constant S_ .f32 0x00000000#32) reducesTo_S2x25x256x256_S2x256x256_d1 h_S_))) Z)))) (id (constant S_ .f32 0xFF800000#32)) pads_S2x25x256x256_S2x25x260x260_000_000_220_220 h_S_ : FVec Ideal S2x25x260x260 .f32) (ix4 n k Y X) =
      if h : (2 ≤ Y.val ∧ Y.val < 258) ∧ (2 ≤ X.val ∧ X.val < 258) then
        B (ix4 n 0 ⟨Y.val - 2, by omega⟩ ⟨X.val - 2, by omega⟩) +
          (L (ix4 n k ⟨Y.val - 2, by omega⟩ ⟨X.val - 2, by omega⟩) -
            (Ideal.log (∑ j, Ideal.exp (L (ix4 n j ⟨Y.val - 2, by omega⟩ ⟨X.val - 2, by omega⟩) - Z (ix4 n 0 ⟨Y.val - 2, by omega⟩ ⟨X.val - 2, by omega⟩)))
              + Z (ix4 n 0 ⟨Y.val - 2, by omega⟩ ⟨X.val - 2, by omega⟩)))
      else ⊥ := by
  simp only [id]
  pointwise
  split <;> split
  · with_reducible rfl
  · omega
  · omega
  · exact bits_negInf

/-- The reference's normalised log-weights plus the belief, with their border of minus infinity. -/
theorem r108 (n : Fin 2) (k : Fin 25) (Y X : Fin 260) :
    res_main_v108 (F := Ideal) V0 (ix4 n k Y X) =
      if h : (2 ≤ Y.val ∧ Y.val < 258) ∧ (2 ≤ X.val ∧ X.val < 258) then
        (args V0).lb (ix4 n 0 ⟨Y.val - 2, by omega⟩ ⟨X.val - 2, by omega⟩) +
          normed (logk (args V0) n ⟨Y.val - 2, by omega⟩ ⟨X.val - 2, by omega⟩)
            (top (logk (args V0) n ⟨Y.val - 2, by omega⟩ ⟨X.val - 2, by omega⟩)) k
      else ⊥ := by
  unfold res_main_v108
  refine (norm_pad _ _ _ n k Y X).trans ?_
  unfold normed
  simp only [r92, r96, args]

end Cert.ReferenceIdeal.Read
end
-- ==== Proof.RefC.lean ====
/- The reference, read to its end: the row of 25 entries of a pixel and the guarded log-sum-exp of the row. -/
module

public import proofs.«01_k».proof.Proof.Gen.ReferenceIdeal.Run
public import proofs.«01_k».proof.Proof.RefB
public import Idealize.ShloMosaic.Lib.Tactic.CleanTypes

@[expose] public section

set_option maxRecDepth 16384

noncomputable section

namespace Cert.ReferenceIdeal.Read

open Idealize.ShloMosaic Cert.ReferenceIdeal Cert.ReferenceIdeal.Value Cert.Belief

variable (V0 : Valuation τ sig (Elt Ideal))

open Cert.ReferenceIdeal.Gen

/-- The row of 25 entries of a pixel: tap `k` is read at the place its offset says. -/
theorem row_at (n : Fin 2) (k : Fin 25) (y x : Fin 256) :
    res_main_v186 (F := Ideal) V0 (ix4 n k y x) =
      res_main_v108 (F := Ideal) V0 (ix4 n k ⟨y.val + (4 - k.val / 5), by omega⟩ ⟨x.val + (4 - k.val % 5), by omega⟩) := by
  unfold res_main_v186 res_main_v184
  generalize res_main_v108 V0 = X
  clean_types
  have hX : ∀ (b b' : Fin 25) (c c' d d' : Fin 260), b.val = b'.val → c.val = c'.val → d.val = d'.val →
      X (ix4 n b c d) = X (ix4 n b' c' d') := by
    intro b b' c c' d d' hb hc hd
    rw [Fin.ext hb, Fin.ext hc, Fin.ext hd]
  pointwise
  fin_vals k with hk
  all_goals
    simp only [hk, ↓reduceDIte, Nat.reduceLT, Nat.reduceSub, Nat.reduceDiv, Nat.reduceMod, Nat.add_comm]
    exact hX _ _ _ _ _ _ hk.symm rfl rfl

/-- A selection on two negated conditions is a case distinction. -/
theorem sel (p q : Prop) [Decidable p] [Decidable q] (a b : EReal) :
    Scalar.select (IntOp.andi (~~~BitVec.ofBool (decide p)) (~~~BitVec.ofBool (decide q))) a b =
      if ¬ p ∧ ¬ q then a else b := by
  by_cases hp : p <;> by_cases hq : q <;> simp [hp, hq, Scalar.select, IntOp.andi]

/-- The absolute value is plus infinity only of an infinite number. -/
theorem absf_top (z : Ideal .f32) : FloatOps.absf z = (⊤ : EReal) ↔ z = (⊤ : EReal) ∨ z = (⊥ : EReal) := abs_eq_top

/-- The sum of the exponentials of a row, each entry shifted by the greatest one where both are finite. -/
theorem sum_shift (X : FVec Ideal S2x25x256x256 .f32) (M : FVec Ideal S2x1x256x256 .f32) (n : Fin 2)
    (y x : Fin 256) :
    (Host.reduceAdd (Host.exp (subf X (select (andi (noti (cmpf .oeq (Host.absf X) (broadcastInDim S2x25x256x256 ![] bcast_S_S2x25x256x256 (constant S_ .f32 0x7F800000#32)))) (broadcastInDim S2x25x256x256 ![0, 1, 2, 3] bcast_S2x1x256x256_S2x25x256x256_0_1_2_3 (noti (cmpf .oeq (Host.absf M) (broadcastInDim S2x1x256x256 ![] bcast_S_S2x1x256x256 (constant S_ .f32 0x7F800000#32)))))) (broadcastInDim S2x25x256x256 ![0, 1, 2, 3] bcast_S2x1x256x256_S2x25x256x256_0_1_2_3 M) (broadcastInDim S2x25x256x256 ![] bcast_S_S2x25x256x256 (id (constant S_ .f32 0x00000000#32)))))) (constant S_ .f32 0x00000000#32) reducesTo_S2x25x256x256_S2x256x256_d1 h_S_ : FVec Ideal S2x256x256 .f32) (ix3 n y x) =
      ∑ j : Fin 25, Ideal.exp (X (ix4 n j y x) -
        (if ¬ (X (ix4 n j y x) = ⊤ ∨ X (ix4 n j y x) = ⊥) ∧ ¬ (M (ix4 n 0 y x) = ⊤ ∨ M (ix4 n 0 y x) = ⊥)
          then M (ix4 n 0 y x) else 0)) := by
  simp only [id]
  pointwise
  simp only [bits_posInf, sel, absf_top]

/-- The reference's last step at a pixel: the guarded logarithm of the sum, with the shift added back. -/
theorem final (M S : FVec Ideal S2x256x256 .f32) (n : Fin 2) (y x : Fin 256) :
    (broadcastInDim S2x1x256x256 ![0, 2, 3] bcast_S2x256x256_S2x1x256x256_0_2_3 (addf M (Host.log (select (andi (noti (cmpf .oeq (Host.absf M) (broadcastInDim S2x256x256 ![] bcast_S_S2x256x256 (constant S_ .f32 0x7F800000#32)))) (noti (cmpf .oeq (Host.absf S) (broadcastInDim S2x256x256 ![] bcast_S_S2x256x256 (constant S_ .f32 0x7F800000#32))))) S (broadcastInDim S2x256x256 ![] bcast_S_S2x256x256 (id (constant S_ .f32 0x3F800000#32)))))) : FVec Ideal S2x1x256x256 .f32) (ix4 n 0 y x) =
      M (ix3 n y x) + Ideal.log (if ¬ (M (ix3 n y x) = ⊤ ∨ M (ix3 n y x) = ⊥) ∧ ¬ (S (ix3 n y x) = ⊤ ∨ S (ix3 n y x) = ⊥)
        then S (ix3 n y x) else 1) := by
  simp only [id]
  pointwise
  simp only [bits_posInf, sel, absf_top]

/-- The entries the reference adds up for a pixel, in the exponent. -/
def rowEntry (A : Args) (n : Fin 2) (k : Fin 25) (Y X : ℕ) : EReal :=
  if h : (2 ≤ Y ∧ Y < 258) ∧ (2 ≤ X ∧ X < 258) then
    A.lb (ix4 n 0 ⟨Y - 2, by omega⟩ ⟨X - 2, by omega⟩) +
      normed (logk A n ⟨Y - 2, by omega⟩ ⟨X - 2, by omega⟩)
        (top (logk A n ⟨Y - 2, by omega⟩ ⟨X - 2, by omega⟩)) k
  else ⊥

/-- The reference's row of 25 entries of a pixel. -/
theorem row_entry (n : Fin 2) (k : Fin 25) (y x : Fin 256) :
    res_main_v186 (F := Ideal) V0 (ix4 n k y x) =
      rowEntry (args V0) n k (y.val + (4 - k.val / 5)) (x.val + (4 - k.val % 5)) :=
  (row_at V0 n k y x).trans (r108 V0 n k _ _)

/-- THE REFERENCE'S RESULT at a pixel: the logarithm of the sum of the exponentials of its 25 entries. -/
theorem res_at (n : Fin 2) (y x : Fin 256) :
    (broadcastInDim S2x1x256x256 ![0, 2, 3] bcast_S2x256x256_S2x1x256x256_0_2_3 (addf (res_main_v187 V0) (Host.log (select (andi (noti (cmpf .oeq (Host.absf (res_main_v187 V0)) (broadcastInDim S2x256x256 ![] bcast_S_S2x256x256 (constant S_ .f32 0x7F800000#32)))) (noti (cmpf .oeq (Host.absf (res_main_v198 V0)) (broadcastInDim S2x256x256 ![] bcast_S_S2x256x256 (constant S_ .f32 0x7F800000#32))))) (res_main_v198 V0) (broadcastInDim S2x256x256 ![] bcast_S_S2x256x256 (id (constant S_ .f32 0x3F800000#32)))))) : FVec Ideal S2x1x256x256 .f32) (ix4 n 0 y x) =
      Ideal.log (∑ k : Fin 25, Ideal.exp
        (rowEntry (args V0) n k (y.val + (4 - k.val / 5)) (x.val + (4 - k.val % 5)))) := by
  have hM : ∀ (n : Fin 2) (y x : Fin 256), res_main_v187 (F := Ideal) V0 (ix3 n y x) =
      top fun j => rowEntry (args V0) n j (y.val + (4 - j.val / 5)) (x.val + (4 - j.val % 5)) := fun n y x => by
    unfold res_main_v187
    refine (red_top _ n y x).trans ?_
    simp only [row_entry]
  have hB : res_main_v188 (F := Ideal) V0 (ix4 n 0 y x) = res_main_v187 (F := Ideal) V0 (ix3 n y x) := by
    unfold res_main_v188
    generalize res_main_v187 V0 = Z
    clean_types
    pointwise
  refine (final _ _ n y x).trans ?_
  have hS := sum_shift (res_main_v186 V0) (res_main_v188 V0) n y x
  change res_main_v198 (F := Ideal) V0 (ix3 n y x) = _ at hS
  rw [hS]
  simp only [hB, hM, row_entry]
  exact glse_eq (isTop_top _)

end Cert.ReferenceIdeal.Read
end
-- ==== Proof.Tie.lean ====
/- Where the two programs meet: with a real row of action logits, the reference's entry of every tap is the logarithm
   of the weight the kernel sends along it. -/
module

public import proofs.«01_k».proof.Proof.RefC

@[expose] public section

set_option maxRecDepth 16384

noncomputable section

namespace Cert.Belief

open Idealize.ShloMosaic

/-- An extended real that is neither infinite. -/
def IsReal (x : EReal) : Prop := x ≠ ⊤ ∧ x ≠ ⊥

/-- An extended real that is neither infinite is a real number. -/
theorem IsReal.real {x : EReal} (h : IsReal x) : ((x.toReal : ℝ) : EReal) = x := EReal.coe_toReal h.1 h.2

/-- A real number is neither infinite. -/
theorem fin_coe (r : ℝ) : IsReal (r : EReal) := ⟨EReal.coe_ne_top r, EReal.coe_ne_bot r⟩

/-- The sum of two real numbers is a real number. -/
theorem IsReal.add {x y : EReal} (hx : IsReal x) (hy : IsReal y) : IsReal (x + y) := by
  rw [← hx.real, ← hy.real, ← EReal.coe_add]
  exact fin_coe _

/-- The product of two real numbers is a real number. -/
theorem IsReal.mul {x y : EReal} (hx : IsReal x) (hy : IsReal y) : IsReal (x * y) := by
  rw [← hx.real, ← hy.real, ← EReal.coe_mul]
  exact fin_coe _

/-- The greater of a real number and zero is a real number. -/
theorem IsReal.relu {x : EReal} (hx : IsReal x) : IsReal (max x 0) := by
  rcases max_choice x 0 with h | h <;> rw [h]
  · exact hx
  · exact fin_coe 0

/-- A finite sum of real numbers is a real number. -/
theorem fin_sum {ι : Type} [Fintype ι] {g : ι → EReal} (h : ∀ k, IsReal (g k)) : IsReal (∑ k, g k) := by
  have e : (∑ k, g k) = ∑ k, (((g k).toReal : ℝ) : EReal) := Finset.sum_congr rfl fun k _ => (h k).real.symm
  rw [e, coe_sum]
  exact fin_coe _

/-- What the precondition says of the arguments: the first bias is nowhere positive and the action branch is finite. -/
structure Good (A : Args) : Prop where
  bred : ∀ o, A.bred (ix1 o) ≤ 0
  act : ∀ i, IsReal (A.act i)
  w1 : ∀ i, IsReal (A.w1 i)
  b1 : ∀ i, IsReal (A.b1 i)
  w2 : ∀ i, IsReal (A.w2 i)
  b2 : ∀ i, IsReal (A.b2 i)

variable {A : Args}

/-- The action logits are then real numbers. -/
theorem Good.lang (h : Good A) (n : Fin 2) (k : Fin 25) : IsReal (lang A n k) :=
  (fin_sum fun c => (h.w2 _).mul ((fin_sum fun d => (h.w1 _).mul (h.act _)).add (h.b1 _)).relu).add (h.b2 _)

open Cert.ReferenceIdeal.Read in
/-- The reference's entry of a tap is the logarithm of the weight the kernel sends along it. -/
theorem exp_rowEntry (h : Good A) (n : Fin 2) (k : Fin 25) (Y X : ℕ) : Ideal.exp (rowEntry A n k Y X) = sentPad A n k Y X := by
  unfold rowEntry sentPad
  split
  · rename_i hb
    generalize (⟨Y - 2, _⟩ : Fin 256) = y
    generalize (⟨X - 2, _⟩ : Fin 256) = x
    have ha : Belief.lang A n = fun k => (((Belief.lang A n k).toReal : ℝ) : EReal) := funext fun k => ((h.lang n k).real).symm
    have p := pixel (motion A n y x) (fun k => (Belief.lang A n k).toReal) (A.lb (ix4 n 0 y x)) (top (motion A n y x)) (top (Belief.lang A n))
      (top fun j => motion A n y x j + Belief.lang A n j) (top (logk A n y x)) (isTop_top _)
      (by rw [← ha]; exact isTop_top _)
      (by
        have e : (fun k => motion A n y x k + (((Belief.lang A n k).toReal : ℝ) : EReal)) = fun j => motion A n y x j + Belief.lang A n j :=
          funext fun k => by rw [(h.lang n k).real]
        rw [e]; exact isTop_top _)
      (by rw [← ha]; exact isTop_top _) k
    rw [← ha] at p
    simp only [(h.lang n _).real] at p
    exact p.symm
  · rfl

open Cert.ReferenceIdeal.Read in
/-- The logarithm of the reference's sum is the new belief. -/
theorem log_rowEntry (h : Good A) (n : Fin 2) (y x : ℕ) :
    Ideal.log (∑ k : Fin 25, Ideal.exp (rowEntry A n k (y + (4 - k.val / 5)) (x + (4 - k.val % 5)))) = belief A n y x := by
  simp only [exp_rowEntry h]
  rfl

end Cert.Belief

end
-- ==== Proof.Given.lean ====
/- The precondition, read back: what its word being 1 says of the arguments. -/
module

public import proofs.«01_k».proof.Proof.Gen.Pre_first_bias_nonpos_action_finite
public import proofs.«01_k».proof.Proof.Tie
public import Idealize.ShloMosaic.Lib.ReduceAll

@[expose] public section

set_option maxRecDepth 16384

noncomputable section

namespace Cert.Belief

open Idealize.ShloMosaic Cert.Pre_first_bias_nonpos_action_finite Cert.Pre_first_bias_nonpos_action_finite.Gen

/-- A scalar array has one index. -/
instance : Subsingleton S_.Idx := ⟨fun a b => funext fun i => i.elim0⟩

/-- A comparison's word is 1 only where the comparison holds. -/
theorem ofBool_one {p : Prop} [Decidable p] (h : BitVec.ofBool (decide p) = 1#1) : p := by
  by_cases hp : p
  · exact hp
  · simp [hp] at h

/-- An extended real whose absolute value is below plus infinity is neither infinite. -/
theorem fin_of_abs {x : EReal} (h : max x (-x) < ⊤) : IsReal x :=
  not_or.mp (mt abs_eq_top.mpr h.ne)

/-- An array whose absolute values are all found below plus infinity holds only real numbers. -/
theorem all_fin {s : Shape} {axes : List (Fin s.rank)} (x : FVec Ideal s .f32) (hb : S_.BroadcastsInDim s ![]) (hr : s.ReducesTo axes S_) (hu : 0 < S_.numel)
    (e : Host.reduce IntOp.andi (cmpf .olt (Host.absf x) (broadcastInDim s ![] hb (constant S_ .f32 0x7F800000#32))) (constantI S_ 1 1#1) hr hu ix0 = 1#1)
    (i : s.Idx) : IsReal (x i) := by
  have h := Host.reduce_andi_all _ _ hr hu ix0 e i
  have h' : BitVec.ofBool (decide (max (x i) (-(x i)) < Ideal.ofBits .f32 0x7F800000#32)) = 1#1 := h
  rw [bits_posInf] at h'
  exact fin_of_abs (ofBool_one h')

/-- An array all of whose entries are found at most zero. -/
theorem all_nonpos {s : Shape} {axes : List (Fin s.rank)} (x : FVec Ideal s .f32) (hb : S_.BroadcastsInDim s ![]) (hr : s.ReducesTo axes S_) (hu : 0 < S_.numel)
    (e : Host.reduce IntOp.andi (cmpf .ole x (broadcastInDim s ![] hb (constant S_ .f32 0x00000000#32))) (constantI S_ 1 1#1) hr hu ix0 = 1#1)
    (i : s.Idx) : x i ≤ (0 : EReal) := by
  have h := Host.reduce_andi_all _ _ hr hu ix0 e i
  have h' : BitVec.ofBool (decide (x i ≤ Ideal.ofBits .f32 0x00000000#32)) = 1#1 := h
  rw [Ideal.ofBits_zero] at h'
  exact ofBool_one h'

/-- The precondition gives what the proof needs of the arguments. -/
theorem good (A : Args)
    (h : fn (F := Ideal) A.lb A.sm A.act A.wred A.bred A.wdil A.bdil A.wexp A.bexp A.wk A.bk A.w1 A.b1 A.w2 A.b2 = fun _ => 1#1) : Good A := by
  have h0 := congrFun h ix0
  unfold fn fn_part1 at h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨e4, e2⟩ := IntOp.andi_eq_one.1 h0
  exact ⟨fun o => all_nonpos A.bred _ _ _ e4 (ix1 o), all_fin A.act _ _ _ e2, all_fin A.w1 _ _ _ e11, all_fin A.b1 _ _ _ e12,
    all_fin A.w2 _ _ _ e13, all_fin A.b2 _ _ _ e14⟩

end Cert.Belief

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_first_bias_nonpos_action_finite
public import proofs.«01_k».proof.Proof.Gen.ReferenceIdeal.Run
public import proofs.«01_k».proof.Proof.Final
public import proofs.«01_k».proof.Proof.Given
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments alone and ends with every counter at zero. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.Belief in
/-- Every index of the result is its four coordinates, the second of them zero. -/
theorem idx_eq (i : (⟨4, ![2, 1, 256, 256]⟩ : Shape).Idx) : i = ix4 (i 0) 0 (i 2) (i 3) := by
  funext a; apply Fin.ext
  match a with
  | ⟨0, _⟩ => rfl
  | ⟨1, _⟩ => have : (i 1).val < 1 := (i 1).isLt; show (i 1).val = 0; omega
  | ⟨2, _⟩ => rfl
  | ⟨3, _⟩ => rfl

/-- Under the precondition the two programs' results agree: both are the new belief of every pixel. -/
theorem algebraic : algebraic_KernelIdeal_ReferenceIdeal_pre_first_bias_nonpos_action_finite := by
  intro m ρ m' ρ' hpre hagree
  have hgood : ∀ c, Cert.Belief.Good (Cert.KernelIdeal.Read.kargs m c) := fun c =>
    Cert.Belief.good (Cert.KernelIdeal.Read.kargs m c) (hpre c)
  have hargs : ∀ c, Cert.ReferenceIdeal.Read.args (StableHlo.launchContents m' c) = Cert.KernelIdeal.Read.kargs m c := fun c => by
    obtain ⟨h0, h1, h2, h3, h4, h5, h6, h7, h8, h9, h10, h11, h12, h13, h14⟩ := hagree c
    unfold Cert.ReferenceIdeal.Read.args Cert.KernelIdeal.Read.kargs
    congr
  refine ⟨fun c => (Cert.KernelIdeal.Gen.dats m 0 c).arrAt 15 Cert.KernelIdeal.cfg0.N, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  refine Eq.trans ?_ (Cert.KernelIdeal.Read.final m c (hgood c).bred).symm
  funext i
  rw [idx_eq i]
  refine (Cert.ReferenceIdeal.Read.res_at _ (i 0) (i 2) (i 3)).trans ?_
  rw [hargs c]
  exact Cert.Belief.log_rowEntry (hgood c) (i 0) (i 2).val (i 3).val

/-- All the claims of the certificate. -/
theorem claim : Cert.Claim := ⟨Cert.Kernel.Gen.facts, Cert.KernelIdeal.Gen.facts, Cert.ReferenceIdeal.Gen.facts, Cert.Pre_first_bias_nonpos_action_finite.Gen.facts,
  fun m ρ _ => Cert.Kernel.Gen.frame m ρ, fun m ρ _ => Cert.KernelIdeal.Gen.frame m ρ, fun m ρ _ => Cert.KernelIdeal.Gen.frame m ρ, reference_quiescent,
  fun m ρ _ => (θ_run Cert.ReferenceIdeal.defs _ _).mono (fun r h => ⟨fun c => (h c).2, sem_eq_zero_of_no_sems (by decide) r.2⟩)
    (Cert.ReferenceIdeal.Value.run (F := Ideal) m ρ), (trivial : preserves_Kernel_KernelIdeal), algebraic⟩

end Cert.Proof

end
